-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.block ⟨2, ![4096, 256]⟩ ⟨2, ![4096, 4096]⟩ 1 16 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = m' (((0 : Dev Cert.ReferenceIdeal.nD).tc : Thread Cert.ReferenceIdeal.nD Cert.ReferenceIdeal.τ).loc Cert.ReferenceIdeal.main_arg1)) →
    ∃ (v0 : Buf (Elt Ideal) (((0 : Dev Cert.ReferenceIdeal.nD).tc : Thread Cert.ReferenceIdeal.nD Cert.ReferenceIdeal.τ).loc Cert.ReferenceIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.block ⟨2, ![256, 2048]⟩ ⟨2, ![4096, 2048]⟩ 0 16 c v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v2) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S4096x256 : Shape := ⟨2, ![4096, 256]⟩
abbrev S4096x2048 : Shape := ⟨2, ![4096, 2048]⟩
abbrev S256x2048 : Shape := ⟨2, ![256, 2048]⟩
abbrev S256x4096 : Shape := ⟨2, ![256, 4096]⟩
abbrev S16x256x2048 : Shape := ⟨3, ![16, 256, 2048]⟩
abbrev S16 : Shape := ⟨1, ![16]⟩
abbrev S1 : Shape := ⟨1, ![1]⟩
abbrev S_ : Shape := ⟨0, ![]⟩
abbrev S1x256x2048 : Shape := ⟨3, ![1, 256, 2048]⟩
abbrev S256x256 : Shape := ⟨2, ![256, 256]⟩

abbrev nBuf : Space → Nat
  | .hbm => 3
  | .vmem => 6
  | .smem => 0
  | _ => 0

abbrev bufTy : (tb : Table) → Fin (tcTables nBuf tb) → BufTy
  | .hbm, ⟨0, _⟩ => ⟨S4096x256, .f32⟩
  | .hbm, ⟨1, _⟩ => ⟨S4096x2048, .f32⟩
  | .hbm, ⟨2, _⟩ => ⟨S256x2048, .f32⟩
  | .local _ .vmem, ⟨0, _⟩ => ⟨S4096x256, .f32⟩
  | .local _ .vmem, ⟨1, _⟩ => ⟨S256x2048, .f32⟩
  | .local _ .vmem, ⟨2, _⟩ => ⟨S4096x256, .bf16⟩
  | .local _ .vmem, ⟨3, _⟩ => ⟨S256x4096, .bf16⟩
  | .local _ .vmem, ⟨4, _⟩ => ⟨S16x256x2048, .f32⟩
  | .local _ .vmem, ⟨5, _⟩ => ⟨S256x2048, .f32⟩
  | _, _ => ⟨S4096x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 1 → Bool
  | ⟨0, _⟩ => false
  | _ => false

abbrev dmaSemScoped : Fin 50 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | _ => false

abbrev sig : RefSig :=
  (ofTc nBuf bufTy 1 50 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_v1 : Ref sig .tc := ⟨.hbm, 2, rfl⟩
abbrev cc0_stg0_0 : Ref sig .tc := ⟨.vmem, 0, rfl⟩
abbrev cc0_stg1_0 : Ref sig .tc := ⟨.vmem, 1, rfl⟩
abbrev cc0_scratch0 : Ref sig .tc := ⟨.vmem, 2, rfl⟩
abbrev cc0_scratch1 : Ref sig .tc := ⟨.vmem, 3, rfl⟩
abbrev cc0_scratch2 : Ref sig .tc := ⟨.vmem, 4, rfl⟩
abbrev cc0_scratch3 : Ref sig .tc := ⟨.vmem, 5, rfl⟩
abbrev cc0_sem0_0 : DmaSem sig := 0
abbrev cc0_sem1_0 : DmaSem sig := 1
abbrev barrier0 : Sem sig := 0

abbrev nD : Nat := 16
abbrev τ : Topo := Topo.v7x

variable {F : FTy → Type} [FloatOps F]

abbrev grid0 : Pipeline.Grid := .none

def k0_off1 (d0 : Dev nD) (c0_i32 : BitVec 32) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let v3 : BitVec 32 := Scalar.addi v2 c0_i32
  let c16_i32_0 : BitVec 32 := 16#32
  let v4 : BitVec 32 := Scalar.remsi v3 c16_i32_0
  let c256_i32 : BitVec 32 := 256#32
  let v35 : BitVec 32 := Scalar.muli v4 c256_i32
  let c0_i32_21 : BitVec 32 := 0#32
  ![v35.toNat, 0]
def k0_off2 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c256_i32_115 : BitVec 32 := 256#32
  let v137 : BitVec 32 := Scalar.muli v2 c256_i32_115
  let v138 : Index := Scalar.indexCast v137
  let c0_116 : Index := 0#32
  ![v138.toNat, 0]
def k0_off3 (d0 : Dev nD) : Fin 2 → Nat :=
  let c0_118 : Index := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c256_i32_117 : BitVec 32 := 256#32
  let v140 : BitVec 32 := Scalar.muli v2 c256_i32_117
  let v141 : Index := Scalar.indexCast v140
  ![0, v141.toNat]
def k0_dev1 (d0 : Dev nD) : Nat :=
  let c0_i32_123 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_119 : BitVec 32 := 1#32
  let v146 : BitVec 32 := Scalar.addi v2 c1_i32_119
  let c16_i32_120 : BitVec 32 := 16#32
  let v147 : BitVec 32 := Scalar.remsi v146 c16_i32_120
  let c1_i32_122 : BitVec 32 := 1#32
  let v148 : BitVec 32 := Scalar.muli v147 c1_i32_122
  let v149 : BitVec 32 := Scalar.addi c0_i32_123 v148
  v149.toNat
def k0_dev2 (d0 : Dev nD) : Nat :=
  let c0_i32_128 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c2_i32_124 : BitVec 32 := 2#32
  let v150 : BitVec 32 := Scalar.addi v2 c2_i32_124
  let c16_i32_125 : BitVec 32 := 16#32
  let v151 : BitVec 32 := Scalar.remsi v150 c16_i32_125
  let c1_i32_127 : BitVec 32 := 1#32
  let v152 : BitVec 32 := Scalar.muli v151 c1_i32_127
  let v153 : BitVec 32 := Scalar.addi c0_i32_128 v152
  v153.toNat
def k0_dev3 (d0 : Dev nD) : Nat :=
  let c0_i32_133 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c3_i32_129 : BitVec 32 := 3#32
  let v154 : BitVec 32 := Scalar.addi v2 c3_i32_129
  let c16_i32_130 : BitVec 32 := 16#32
  let v155 : BitVec 32 := Scalar.remsi v154 c16_i32_130
  let c1_i32_132 : BitVec 32 := 1#32
  let v156 : BitVec 32 := Scalar.muli v155 c1_i32_132
  let v157 : BitVec 32 := Scalar.addi c0_i32_133 v156
  v157.toNat
def k0_dev4 (d0 : Dev nD) : Nat :=
  let c0_i32_138 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_134 : BitVec 32 := 4#32
  let v158 : BitVec 32 := Scalar.addi v2 c4_i32_134
  let c16_i32_135 : BitVec 32 := 16#32
  let v159 : BitVec 32 := Scalar.remsi v158 c16_i32_135
  let c1_i32_137 : BitVec 32 := 1#32
  let v160 : BitVec 32 := Scalar.muli v159 c1_i32_137
  let v161 : BitVec 32 := Scalar.addi c0_i32_138 v160
  v161.toNat
def k0_dev5 (d0 : Dev nD) : Nat :=
  let c0_i32_143 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c5_i32_139 : BitVec 32 := 5#32
  let v162 : BitVec 32 := Scalar.addi v2 c5_i32_139
  let c16_i32_140 : BitVec 32 := 16#32
  let v163 : BitVec 32 := Scalar.remsi v162 c16_i32_140
  let c1_i32_142 : BitVec 32 := 1#32
  let v164 : BitVec 32 := Scalar.muli v163 c1_i32_142
  let v165 : BitVec 32 := Scalar.addi c0_i32_143 v164
  v165.toNat
def k0_dev6 (d0 : Dev nD) : Nat :=
  let c0_i32_148 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c6_i32_144 : BitVec 32 := 6#32
  let v166 : BitVec 32 := Scalar.addi v2 c6_i32_144
  let c16_i32_145 : BitVec 32 := 16#32
  let v167 : BitVec 32 := Scalar.remsi v166 c16_i32_145
  let c1_i32_147 : BitVec 32 := 1#32
  let v168 : BitVec 32 := Scalar.muli v167 c1_i32_147
  let v169 : BitVec 32 := Scalar.addi c0_i32_148 v168
  v169.toNat
def k0_dev7 (d0 : Dev nD) : Nat :=
  let c0_i32_153 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c7_i32_149 : BitVec 32 := 7#32
  let v170 : BitVec 32 := Scalar.addi v2 c7_i32_149
  let c16_i32_150 : BitVec 32 := 16#32
  let v171 : BitVec 32 := Scalar.remsi v170 c16_i32_150
  let c1_i32_152 : BitVec 32 := 1#32
  let v172 : BitVec 32 := Scalar.muli v171 c1_i32_152
  let v173 : BitVec 32 := Scalar.addi c0_i32_153 v172
  v173.toNat
def k0_dev8 (d0 : Dev nD) : Nat :=
  let c0_i32_158 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c8_i32_154 : BitVec 32 := 8#32
  let v174 : BitVec 32 := Scalar.addi v2 c8_i32_154
  let c16_i32_155 : BitVec 32 := 16#32
  let v175 : BitVec 32 := Scalar.remsi v174 c16_i32_155
  let c1_i32_157 : BitVec 32 := 1#32
  let v176 : BitVec 32 := Scalar.muli v175 c1_i32_157
  let v177 : BitVec 32 := Scalar.addi c0_i32_158 v176
  v177.toNat
def k0_dev9 (d0 : Dev nD) : Nat :=
  let c0_i32_163 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c9_i32_159 : BitVec 32 := 9#32
  let v178 : BitVec 32 := Scalar.addi v2 c9_i32_159
  let c16_i32_160 : BitVec 32 := 16#32
  let v179 : BitVec 32 := Scalar.remsi v178 c16_i32_160
  let c1_i32_162 : BitVec 32 := 1#32
  let v180 : BitVec 32 := Scalar.muli v179 c1_i32_162
  let v181 : BitVec 32 := Scalar.addi c0_i32_163 v180
  v181.toNat
def k0_dev10 (d0 : Dev nD) : Nat :=
  let c0_i32_168 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c10_i32_164 : BitVec 32 := 10#32
  let v182 : BitVec 32 := Scalar.addi v2 c10_i32_164
  let c16_i32_165 : BitVec 32 := 16#32
  let v183 : BitVec 32 := Scalar.remsi v182 c16_i32_165
  let c1_i32_167 : BitVec 32 := 1#32
  let v184 : BitVec 32 := Scalar.muli v183 c1_i32_167
  let v185 : BitVec 32 := Scalar.addi c0_i32_168 v184
  v185.toNat
def k0_dev11 (d0 : Dev nD) : Nat :=
  let c0_i32_173 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c11_i32_169 : BitVec 32 := 11#32
  let v186 : BitVec 32 := Scalar.addi v2 c11_i32_169
  let c16_i32_170 : BitVec 32 := 16#32
  let v187 : BitVec 32 := Scalar.remsi v186 c16_i32_170
  let c1_i32_172 : BitVec 32 := 1#32
  let v188 : BitVec 32 := Scalar.muli v187 c1_i32_172
  let v189 : BitVec 32 := Scalar.addi c0_i32_173 v188
  v189.toNat
def k0_dev12 (d0 : Dev nD) : Nat :=
  let c0_i32_178 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c12_i32_174 : BitVec 32 := 12#32
  let v190 : BitVec 32 := Scalar.addi v2 c12_i32_174
  let c16_i32_175 : BitVec 32 := 16#32
  let v191 : BitVec 32 := Scalar.remsi v190 c16_i32_175
  let c1_i32_177 : BitVec 32 := 1#32
  let v192 : BitVec 32 := Scalar.muli v191 c1_i32_177
  let v193 : BitVec 32 := Scalar.addi c0_i32_178 v192
  v193.toNat
def k0_dev13 (d0 : Dev nD) : Nat :=
  let c0_i32_183 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c13_i32_179 : BitVec 32 := 13#32
  let v194 : BitVec 32 := Scalar.addi v2 c13_i32_179
  let c16_i32_180 : BitVec 32 := 16#32
  let v195 : BitVec 32 := Scalar.remsi v194 c16_i32_180
  let c1_i32_182 : BitVec 32 := 1#32
  let v196 : BitVec 32 := Scalar.muli v195 c1_i32_182
  let v197 : BitVec 32 := Scalar.addi c0_i32_183 v196
  v197.toNat
def k0_dev14 (d0 : Dev nD) : Nat :=
  let c0_i32_188 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c14_i32_184 : BitVec 32 := 14#32
  let v198 : BitVec 32 := Scalar.addi v2 c14_i32_184
  let c16_i32_185 : BitVec 32 := 16#32
  let v199 : BitVec 32 := Scalar.remsi v198 c16_i32_185
  let c1_i32_187 : BitVec 32 := 1#32
  let v200 : BitVec 32 := Scalar.muli v199 c1_i32_187
  let v201 : BitVec 32 := Scalar.addi c0_i32_188 v200
  v201.toNat
def k0_dev15 (d0 : Dev nD) : Nat :=
  let c0_i32_193 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_189 : BitVec 32 := 15#32
  let v202 : BitVec 32 := Scalar.addi v2 c15_i32_189
  let c16_i32_190 : BitVec 32 := 16#32
  let v203 : BitVec 32 := Scalar.remsi v202 c16_i32_190
  let c1_i32_192 : BitVec 32 := 1#32
  let v204 : BitVec 32 := Scalar.muli v203 c1_i32_192
  let v205 : BitVec 32 := Scalar.addi c0_i32_193 v204
  v205.toNat
def k0_off4 (d0 : Dev nD) : Fin 2 → Nat :=
  let c0_i32_203 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c256_i32_198 : BitVec 32 := 256#32
  let v209 : BitVec 32 := Scalar.muli v2 c256_i32_198
  ![0, v209.toNat]
def k0_off5 (d0 : Dev nD) (c1_i32_195 : BitVec 32) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let v206 : BitVec 32 := Scalar.addi v2 c1_i32_195
  let c16_i32_196 : BitVec 32 := 16#32
  let v207 : BitVec 32 := Scalar.remsi v206 c16_i32_196
  let c256_i32_197 : BitVec 32 := 256#32
  let v208 : BitVec 32 := Scalar.muli v207 c256_i32_197
  let c0_i32_204 : BitVec 32 := 0#32
  ![v208.toNat, 0]
def k0_dev16 (d0 : Dev nD) : Nat :=
  let c0_i32_202 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_195 : BitVec 32 := 1#32
  let v206 : BitVec 32 := Scalar.addi v2 c1_i32_195
  let c16_i32_196 : BitVec 32 := 16#32
  let v207 : BitVec 32 := Scalar.remsi v206 c16_i32_196
  let c1_i32_201 : BitVec 32 := 1#32
  let v210 : BitVec 32 := Scalar.muli v207 c1_i32_201
  let v211 : BitVec 32 := Scalar.addi c0_i32_202 v210
  v211.toNat
def k0_dev17 (d0 : Dev nD) : Nat :=
  let c0_i32_212 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c2_i32_205 : BitVec 32 := 2#32
  let v218 : BitVec 32 := Scalar.addi v2 c2_i32_205
  let c16_i32_206 : BitVec 32 := 16#32
  let v219 : BitVec 32 := Scalar.remsi v218 c16_i32_206
  let c1_i32_211 : BitVec 32 := 1#32
  let v222 : BitVec 32 := Scalar.muli v219 c1_i32_211
  let v223 : BitVec 32 := Scalar.addi c0_i32_212 v222
  v223.toNat
def k0_dev18 (d0 : Dev nD) : Nat :=
  let c0_i32_222 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c3_i32_215 : BitVec 32 := 3#32
  let v230 : BitVec 32 := Scalar.addi v2 c3_i32_215
  let c16_i32_216 : BitVec 32 := 16#32
  let v231 : BitVec 32 := Scalar.remsi v230 c16_i32_216
  let c1_i32_221 : BitVec 32 := 1#32
  let v234 : BitVec 32 := Scalar.muli v231 c1_i32_221
  let v235 : BitVec 32 := Scalar.addi c0_i32_222 v234
  v235.toNat
def k0_dev19 (d0 : Dev nD) : Nat :=
  let c0_i32_232 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_225 : BitVec 32 := 4#32
  let v242 : BitVec 32 := Scalar.addi v2 c4_i32_225
  let c16_i32_226 : BitVec 32 := 16#32
  let v243 : BitVec 32 := Scalar.remsi v242 c16_i32_226
  let c1_i32_231 : BitVec 32 := 1#32
  let v246 : BitVec 32 := Scalar.muli v243 c1_i32_231
  let v247 : BitVec 32 := Scalar.addi c0_i32_232 v246
  v247.toNat
def k0_dev20 (d0 : Dev nD) : Nat :=
  let c0_i32_242 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c5_i32_235 : BitVec 32 := 5#32
  let v254 : BitVec 32 := Scalar.addi v2 c5_i32_235
  let c16_i32_236 : BitVec 32 := 16#32
  let v255 : BitVec 32 := Scalar.remsi v254 c16_i32_236
  let c1_i32_241 : BitVec 32 := 1#32
  let v258 : BitVec 32 := Scalar.muli v255 c1_i32_241
  let v259 : BitVec 32 := Scalar.addi c0_i32_242 v258
  v259.toNat
def k0_dev21 (d0 : Dev nD) : Nat :=
  let c0_i32_252 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c6_i32_245 : BitVec 32 := 6#32
  let v266 : BitVec 32 := Scalar.addi v2 c6_i32_245
  let c16_i32_246 : BitVec 32 := 16#32
  let v267 : BitVec 32 := Scalar.remsi v266 c16_i32_246
  let c1_i32_251 : BitVec 32 := 1#32
  let v270 : BitVec 32 := Scalar.muli v267 c1_i32_251
  let v271 : BitVec 32 := Scalar.addi c0_i32_252 v270
  v271.toNat
def k0_dev22 (d0 : Dev nD) : Nat :=
  let c0_i32_262 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c7_i32_255 : BitVec 32 := 7#32
  let v278 : BitVec 32 := Scalar.addi v2 c7_i32_255
  let c16_i32_256 : BitVec 32 := 16#32
  let v279 : BitVec 32 := Scalar.remsi v278 c16_i32_256
  let c1_i32_261 : BitVec 32 := 1#32
  let v282 : BitVec 32 := Scalar.muli v279 c1_i32_261
  let v283 : BitVec 32 := Scalar.addi c0_i32_262 v282
  v283.toNat
def k0_dev23 (d0 : Dev nD) : Nat :=
  let c0_i32_272 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c8_i32_265 : BitVec 32 := 8#32
  let v290 : BitVec 32 := Scalar.addi v2 c8_i32_265
  let c16_i32_266 : BitVec 32 := 16#32
  let v291 : BitVec 32 := Scalar.remsi v290 c16_i32_266
  let c1_i32_271 : BitVec 32 := 1#32
  let v294 : BitVec 32 := Scalar.muli v291 c1_i32_271
  let v295 : BitVec 32 := Scalar.addi c0_i32_272 v294
  v295.toNat
def k0_dev24 (d0 : Dev nD) : Nat :=
  let c0_i32_282 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c9_i32_275 : BitVec 32 := 9#32
  let v302 : BitVec 32 := Scalar.addi v2 c9_i32_275
  let c16_i32_276 : BitVec 32 := 16#32
  let v303 : BitVec 32 := Scalar.remsi v302 c16_i32_276
  let c1_i32_281 : BitVec 32 := 1#32
  let v306 : BitVec 32 := Scalar.muli v303 c1_i32_281
  let v307 : BitVec 32 := Scalar.addi c0_i32_282 v306
  v307.toNat
def k0_dev25 (d0 : Dev nD) : Nat :=
  let c0_i32_292 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c10_i32_285 : BitVec 32 := 10#32
  let v314 : BitVec 32 := Scalar.addi v2 c10_i32_285
  let c16_i32_286 : BitVec 32 := 16#32
  let v315 : BitVec 32 := Scalar.remsi v314 c16_i32_286
  let c1_i32_291 : BitVec 32 := 1#32
  let v318 : BitVec 32 := Scalar.muli v315 c1_i32_291
  let v319 : BitVec 32 := Scalar.addi c0_i32_292 v318
  v319.toNat
def k0_dev26 (d0 : Dev nD) : Nat :=
  let c0_i32_302 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c11_i32_295 : BitVec 32 := 11#32
  let v326 : BitVec 32 := Scalar.addi v2 c11_i32_295
  let c16_i32_296 : BitVec 32 := 16#32
  let v327 : BitVec 32 := Scalar.remsi v326 c16_i32_296
  let c1_i32_301 : BitVec 32 := 1#32
  let v330 : BitVec 32 := Scalar.muli v327 c1_i32_301
  let v331 : BitVec 32 := Scalar.addi c0_i32_302 v330
  v331.toNat
def k0_dev27 (d0 : Dev nD) : Nat :=
  let c0_i32_312 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c12_i32_305 : BitVec 32 := 12#32
  let v338 : BitVec 32 := Scalar.addi v2 c12_i32_305
  let c16_i32_306 : BitVec 32 := 16#32
  let v339 : BitVec 32 := Scalar.remsi v338 c16_i32_306
  let c1_i32_311 : BitVec 32 := 1#32
  let v342 : BitVec 32 := Scalar.muli v339 c1_i32_311
  let v343 : BitVec 32 := Scalar.addi c0_i32_312 v342
  v343.toNat
def k0_dev28 (d0 : Dev nD) : Nat :=
  let c0_i32_322 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c13_i32_315 : BitVec 32 := 13#32
  let v350 : BitVec 32 := Scalar.addi v2 c13_i32_315
  let c16_i32_316 : BitVec 32 := 16#32
  let v351 : BitVec 32 := Scalar.remsi v350 c16_i32_316
  let c1_i32_321 : BitVec 32 := 1#32
  let v354 : BitVec 32 := Scalar.muli v351 c1_i32_321
  let v355 : BitVec 32 := Scalar.addi c0_i32_322 v354
  v355.toNat
def k0_dev29 (d0 : Dev nD) : Nat :=
  let c0_i32_332 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c14_i32_325 : BitVec 32 := 14#32
  let v362 : BitVec 32 := Scalar.addi v2 c14_i32_325
  let c16_i32_326 : BitVec 32 := 16#32
  let v363 : BitVec 32 := Scalar.remsi v362 c16_i32_326
  let c1_i32_331 : BitVec 32 := 1#32
  let v366 : BitVec 32 := Scalar.muli v363 c1_i32_331
  let v367 : BitVec 32 := Scalar.addi c0_i32_332 v366
  v367.toNat
def k0_dev30 (d0 : Dev nD) : Nat :=
  let c0_i32_342 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_335 : BitVec 32 := 15#32
  let v374 : BitVec 32 := Scalar.addi v2 c15_i32_335
  let c16_i32_336 : BitVec 32 := 16#32
  let v375 : BitVec 32 := Scalar.remsi v374 c16_i32_336
  let c1_i32_341 : BitVec 32 := 1#32
  let v378 : BitVec 32 := Scalar.muli v375 c1_i32_341
  let v379 : BitVec 32 := Scalar.addi c0_i32_342 v378
  v379.toNat
def k0_off6 (d0 : Dev nD) (c0_i32 : BitVec 32) : Fin 2 → Nat :=
  let c0_351 : Index := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let v3 : BitVec 32 := Scalar.addi v2 c0_i32
  let c16_i32_0 : BitVec 32 := 16#32
  let v4 : BitVec 32 := Scalar.remsi v3 c16_i32_0
  let c256_i32_350 : BitVec 32 := 256#32
  let v391 : BitVec 32 := Scalar.muli v4 c256_i32_350
  let v392 : Index := Scalar.indexCast v391
  ![0, v392.toNat]
abbrev stage0_0 : Fin 1 → Memref sig .tc .vmem S4096x256 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S256x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
-- ==== ReferenceIdeal.lean ====
abbrev S4096x4096 : Shape := ⟨2, ![4096, 4096]⟩
abbrev S4096x2048 : Shape := ⟨2, ![4096, 2048]⟩
abbrev S_ : Shape := ⟨0, ![]⟩

abbrev nBuf : Space → Nat
  | .hbm => 6
  | .vmem => 0
  | .smem => 0
  | _ => 0

abbrev bufTy : (tb : Table) → Fin (tcTables nBuf tb) → BufTy
  | .hbm, ⟨0, _⟩ => ⟨S4096x4096, .f32⟩
  | .hbm, ⟨1, _⟩ => ⟨S4096x2048, .f32⟩
  | .hbm, ⟨2, _⟩ => ⟨S4096x2048, .f32⟩
  | .hbm, ⟨3, _⟩ => ⟨S_, .f32⟩
  | .hbm, ⟨4, _⟩ => ⟨S4096x2048, .f32⟩
  | .hbm, ⟨5, _⟩ => ⟨S4096x2048, .f32⟩
  | _, _ => ⟨S4096x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩

abbrev nD : Nat := 1
abbrev τ : Topo := Topo.v7x

variable {F : FTy → Type} [FloatOps F]
-- ==== Proof.Body.lean ====
/-
The kernel's body as five loops.

The printed body is one long sequence: sixteen copies of weight blocks, the cast of the device's own input, fifteen
signals, fifteen sends, sixteen accumulation steps and fifteen waits. Here each of these groups is one program with
its number as an argument, and the printed body is shown to be the loops over them.
-/
module

public import proofs.«01_k».proof.Proof.Gen.KernelIdeal
public import proofs.«01_k».proof.Proof.Gen.KernelIdeal.Skeleton
public import proofs.«01_k».proof.Proof.Gen.KernelIdeal.Points
public import Idealize.ShloMosaic.Lib.Pipeline.Regions

@[expose] public section

set_option maxRecDepth 65536

noncomputable section

universe u

namespace Cert.A2A

open Idealize.ShloMosaic Idealize.ShloMosaic.TcCoe Idealize.SL Idealize.SL.Sem
open Cert.KernelIdeal Cert.KernelIdeal.Gen

variable {F : FTy → Type} [FloatOps F]

/-! ## The buffers -/

/-- The staged input block, all 4096 rows of the device's 256 columns. -/
abbrev xM : Memref sig .tc .vmem S4096x256 .f32 := Memref.whole cc0_stg0_0
/-- The weights, in the device's main memory. -/
abbrev wM : Memref sig .tc .hbm S4096x2048 .f32 := Memref.whole main_arg1
/-- The staged output block. -/
abbrev oM : Memref sig .tc .vmem S256x2048 .f32 := Memref.whole cc0_stg1_0
/-- The input block cast to `bf16`. -/
abbrev x16M : Memref sig .tc .vmem S4096x256 .bf16 := Memref.whole cc0_scratch0
/-- The device's 256 rows of the whole input, assembled from every device. -/
abbrev xrM : Memref sig .tc .vmem S256x4096 .bf16 := Memref.whole cc0_scratch1
/-- The sixteen weight blocks as they are staged. -/
abbrev wbM : Memref sig .tc .vmem S16x256x2048 .f32 := Memref.whole cc0_scratch2
/-- The accumulator. -/
abbrev accM : Memref sig .tc .vmem S256x2048 .f32 := Memref.whole cc0_scratch3

/-! ## Positions -/

theorem inb_sem (t : Fin 16) : ∀ a, (![t.val] : Fin 1 → Nat) a + S1.size a ≤ S16.size a := by decide +revert
theorem inb_slot (t : Fin 16) :
    ∀ a, (![t.val, 0, 0] : Fin 3 → Nat) a + S1x256x2048.size a ≤ S16x256x2048.size a := by decide +revert

/-- Cell `t` of an array of sixteen semaphores. -/
abbrev semAt (s : DmaSems sig S16) (t : Fin 16) : DmaSem sig :=
  ((s.slice (Rect.unit (s := S16) ![t.val] S1.size (inb_sem t))).squeeze S_ squeezes_S1_S_).sem

/-- The barrier semaphore. -/
abbrev barS : Sem sig := (SemArray.scalar (sig.barrier 0 rfl) : Sems sig S_).sem

/-- The distance `e + 1` of the `e`-th peer, as a number below 16. -/
abbrev far (e : Fin 15) : Fin 16 := ⟨1 + e.val, by omega⟩

/-- How far before its own place, counted upwards, the device looks for block `t`. -/
abbrev back (t : Fin 16) : Fin 16 := ⟨(16 - t.val) % 16, by omega⟩

/-- The logical id of the device `w` places after `c`, as the kernel computes it. -/
def peerNat (c : Dev nD) (w : BitVec 32) : Nat :=
  (Scalar.addi 0#32 (Scalar.muli (Scalar.remsi (Scalar.addi (Scalar.remsi (Scalar.divsi (Dev.word c) 1#32) 16#32) w)
    16#32) 1#32)).toNat

theorem peerNat_eq : ∀ (c : Dev nD) (e : Fin 15),
    peerNat c (BitVec.ofNat 32 (1 + e.val)) = (c.val + e.val + 1) % 16 := by decide +kernel

theorem peerNat_lt (c : Dev nD) (e : Fin 15) : peerNat c (BitVec.ofNat 32 (1 + e.val)) < nD := by
  rw [peerNat_eq]; exact Nat.mod_lt _ (by decide)

/-- The device `e + 1` places after `c`. -/
abbrev peer (c : Dev nD) (e : Fin 15) : Dev nD := ⟨peerNat c (BitVec.ofNat 32 (1 + e.val)), peerNat_lt c e⟩

/-! ## The pieces of the buffers -/

/-- Weight block `t` in main memory: the rows of the device `t` places before `c`. -/
abbrev wRows (c : Dev nD) (t : Fin 16) : Memref sig .tc .hbm S256x2048 .f32 :=
  wM.slice (Rect.unit (s := S4096x2048) (k0_off1 c (BitVec.ofNat 32 (back t).val)) S256x2048.size
    (k0_off1_inb c (back t))) (fun _ => rfl)
/-- Slot `t` of the staged weights. -/
abbrev wSlot (t : Fin 16) : Memref sig .tc .vmem S256x2048 .f32 :=
  (wbM.slice (Rect.unit (s := S16x256x2048) ![t.val, 0, 0] S1x256x2048.size (inb_slot t)) (fun _ => rfl)).squeeze
    S256x2048 squeezes_S1x256x2048_S256x2048
/-- The rows of the cast input block that go to the `e`-th peer. -/
abbrev xTo (c : Dev nD) (e : Fin 15) : Memref sig .tc .vmem S256x256 .bf16 :=
  x16M.slice (Rect.unit (s := S4096x256) (k0_off5 c (BitVec.ofNat 32 (1 + e.val))) S256x256.size (k0_off5_inb c e))
    (fun _ => rfl)
/-- The columns of a device's assembled rows that device `c` fills. -/
abbrev xFrom (c : Dev nD) : Memref sig .tc .vmem S256x256 .bf16 :=
  xrM.slice (Rect.unit (s := S256x4096) (k0_off4 c) S256x256.size (k0_off4_inb c)) (fun _ => rfl)

/-! ## The groups -/

/-- A loop over a list. -/
def each {E : Type → Type u} {ι : Type} (f : ι → Prog E PUnit) : List ι → Prog E PUnit
  | [] => pure ⟨⟩
  | i :: l => f i >>= fun _ => each f l

/-- The numbers below 16, and below 15. -/
abbrev upTo16 : List (Fin 16) := [0, 1, 2, 3, 4, 5, 6, 7, 8, 9, 10, 11, 12, 13, 14, 15]
abbrev upTo15 : List (Fin 15) := [0, 1, 2, 3, 4, 5, 6, 7, 8, 9, 10, 11, 12, 13, 14]

variable (F) in
/-- A program of the kernel. -/
abbrev KProg (α : Type) := Prog (TpuEff nD τ sig (Elt F) Λ₀ .tc) α

/-- Start the copy of weight block `t`. -/
def wStart (c : Dev nD) (t : Fin 16) : KProg F PUnit :=
  Prog.lift (.enqueueDma (wRows c t) (.here (wSlot t)) (.dma (semAt cc0_scratch6 t)) (View.wordExact_bits rfl)
    ((View.wordExact_bits rfl).reshape _ _) ⟨Or.inl rfl, trivial⟩)

/-- Cast the input block, and place the device's own part of it among its rows. -/
def castOwn (c : Dev nD) : KProg F PUnit := do
  let x : Vec F S4096x256 .f32 ← Prog.lift (.load xM (Rect.unit (s := S4096x256) ![0, 0] S4096x256.size
    inb_S4096x256_S4096x256_0_0).toLoadRect (View.loadsAt_vmem h_S4096x256))
  let _ : Vec F S4096x256 .bf16 ← Prog.lift (.load x16M (Rect.unit (s := S4096x256) ![0, 0] S4096x256.size
    inb_S4096x256_S4096x256_0_0).toLoadRect (View.loadsAt_vmem h_S4096x256))
  Prog.lift (.store x16M (Rect.unit (s := S4096x256) ![0, 0] S4096x256.size inb_S4096x256_S4096x256_0_0) (k0_pay1 x)
    Finset.univ (View.stores_vmem h_S4096x256 ((Memref.isWhole_whole cc0_scratch0).storeExact_slice rfl _
      packedbf16_S4096x256_S4096x256_0_0) (fun _ => rfl)) (.inl rfl))
  let b : Vec F S256x256 .bf16 ← Prog.lift (.load x16M (Rect.unit (s := S4096x256) (k0_off2 c) S256x256.size
    (k0_off2_inb c)).toLoadRect (View.loadsAt_vmem h_S256x256))
  let _ : Vec F S256x256 .bf16 ← Prog.lift (.load xrM (Rect.unit (s := S256x4096) (k0_off3 c) S256x256.size
    (k0_off3_inb c)).toLoadRect (View.loadsAt_vmem h_S256x256))
  Prog.lift (.store xrM (Rect.unit (s := S256x4096) (k0_off3 c) S256x256.size (k0_off3_inb c)) (k0_pay2 b) Finset.univ
    (View.stores_vmem h_S256x256 ((Memref.isWhole_whole cc0_scratch1).storeExact_slice rfl _ (k0_off3_packedbf16 c))
      (fun _ => rfl)) (.inl rfl))

/-- Tell the `e`-th peer that this device has entered the kernel. -/
def tell (c : Dev nD) (e : Fin 15) : KProg F PUnit := semSignalWord (peer c e) barS 1#32

/-- Send the `e`-th peer its rows. -/
def send (c : Dev nD) (e : Fin 15) : KProg F PUnit :=
  Prog.lift (.enqueueDma (xTo c e) (.remote (Dev.tc (peer c e)) (xFrom c) (.dma (semAt cc0_scratch4 (far e))))
    (.dma (semAt cc0_scratch5 (far e))) ((Memref.isWhole_whole cc0_scratch0).wordExact_slice rfl _ (k0_off5_wordsbf16 c e))
    ((Memref.isWhole_whole cc0_scratch1).wordExact_slice rfl _ (k0_off4_wordsbf16 c)) ⟨⟨rfl, Or.inl rfl⟩, trivial⟩)

/-- Wait for weight block `t`. -/
def wWait (c : Dev nD) (t : Fin 16) : KProg F PUnit :=
  Prog.lift (.waitDma2 (semAt cc0_scratch6 t) (wRows c t) (wSlot t) (View.wordExact_bits rfl)
    ((View.wordExact_bits rfl).reshape _ _))

/-- Wait for the block of the device `t` places before. -/
def xWait (t : Fin 16) : KProg F PUnit :=
  Prog.lift (.waitDma2 (semAt cc0_scratch5 t)
    (x16M.slice (Rect.unit (s := S4096x256) ![0, 0] S256x256.size inb_S4096x256_S256x256_0_0) (fun _ => rfl))
    (xrM.slice (Rect.unit (s := S256x4096) ![0, 0] S256x256.size inb_S256x4096_S256x256_0_0) (fun _ => rfl))
    ((Memref.isWhole_whole cc0_scratch0).wordExact_slice rfl _ wordsbf16_S4096x256_S256x256_0_0)
    ((Memref.isWhole_whole cc0_scratch1).wordExact_slice rfl _ wordsbf16_S256x4096_S256x256_0_0))

/-- Read input block `t` from the assembled rows. -/
def xLoad (c : Dev nD) (t : Fin 16) : KProg F (Vec F S256x256 .bf16) :=
  Prog.lift (.load xrM (Rect.unit (s := S256x4096) (k0_off6 c (BitVec.ofNat 32 (back t).val)) S256x256.size
    (k0_off6_inb c (back t))).toLoadRect (View.loadsAt_vmem h_S256x256))
/-- Read weight block `t`. -/
def wLoad (t : Fin 16) : KProg F (Vec F S1x256x2048 .f32) :=
  Prog.lift (.load wbM (Rect.unit (s := S16x256x2048) ![t.val, 0, 0] S1x256x2048.size (inb_slot t)).toLoadRect
    (View.loadsAt_vmem h_S1x256x2048))
/-- Read the accumulator. -/
def accLoad : KProg F (Vec F S256x2048 .f32) :=
  Prog.lift (.load accM (Rect.unit (s := S256x2048) ![0, 0] S256x2048.size inb_S256x2048_S256x2048_0_0).toLoadRect
    (View.loadsAt_vmem h_S256x2048))
/-- Write the accumulator. -/
def accStore (v : FVec F S256x2048 .f32) : KProg F PUnit :=
  Prog.lift (.store accM (Rect.unit (s := S256x2048) ![0, 0] S256x2048.size inb_S256x2048_S256x2048_0_0) v Finset.univ
    (View.stores_vmem_bits_univ h_S256x2048 rfl) (.inl rfl))

/-- The first accumulation step: the device's own block, written over the accumulator. -/
def first (c : Dev nD) : KProg F PUnit := do
  wWait c 0
  let xb ← xLoad c 0
  let wb ← wLoad 0
  let _ ← accLoad
  accStore (k0_pay3 xb wb)

/-- A later accumulation step: the block of the device `e + 1` places before, added to the accumulator. -/
def next (c : Dev nD) (e : Fin 15) : KProg F PUnit := do
  wWait c (far e)
  xWait (far e)
  let xb ← xLoad c (far e)
  let wb ← wLoad (far e)
  let a ← accLoad
  let _ ← accLoad
  accStore (k0_pay4 xb wb a)

/-- Write the result from the accumulator. -/
def finish : KProg F PUnit := do
  let a ← accLoad
  let _ : Vec F S256x2048 .f32 ← Prog.lift (.load oM (Rect.unit (s := S256x2048) ![0, 0] S256x2048.size
    inb_S256x2048_S256x2048_0_0).toLoadRect (View.loadsAt_vmem h_S256x2048))
  Prog.lift (.store oM (Rect.unit (s := S256x2048) ![0, 0] S256x2048.size inb_S256x2048_S256x2048_0_0) (k0_pay22 a)
    Finset.univ (View.stores_vmem_bits_univ h_S256x2048 rfl) (.inl rfl))

/-- Wait until the rows sent to the `e`-th peer have left. -/
def sendWait (c : Dev nD) (e : Fin 15) : KProg F PUnit :=
  Prog.lift (.waitDma2 (semAt cc0_scratch4 (far e)) (xFrom c) (xTo c e)
    ((Memref.isWhole_whole cc0_scratch1).wordExact_slice rfl _ (k0_off4_wordsbf16 c))
    ((Memref.isWhole_whole cc0_scratch0).wordExact_slice rfl _ (k0_off5_wordsbf16 c e)))

/-- The body as loops. -/
def loops : KProg F PUnit := do
  let c : Dev nD ← Prog.lift .deviceId
  each (wStart c) upTo16
  castOwn c
  each (tell c) upTo15
  semWaitWord barS 15#32
  each (send c) upTo15
  first c
  each (next c) upTo15
  finish
  each (sendWait c) upTo15

set_option maxHeartbeats 4000000 in
/-- The printed body is the loops. -/
theorem body_eq (t : Fin cfg0.N) : bodyAt0 (F := F) t = loops := by chain_rfl

end Cert.A2A

end
-- ==== Proof.Blocks.lean ====
/-
Where the pieces of the buffers lie, and what they hold.

Every buffer that a copy touches is cut into sixteen blocks, one for each device: the rows of the cast input, the
columns of the assembled rows, the rows of the weights, the slots of the staged weights. A piece the kernel addresses
is one of these blocks. One function gives the contents of each whole buffer, so blocks that came back by different
ways fit together again.
-/
module

public import proofs.«01_k».proof.Proof.Body
public import Idealize.ShloMosaic.Lib.ViewIndex
public import Idealize.ShloMosaic.Lib.ValueIdxCoords
public import Idealize.ShloMosaic.Lib.Pipeline.Value

@[expose] public section

set_option maxRecDepth 65536

noncomputable section

namespace Cert.A2A

open Idealize.ShloMosaic Idealize.ShloMosaic.TcCoe Idealize.SL Idealize.SL.Sem
open Cert.KernelIdeal Cert.KernelIdeal.Gen
open Idealize.ShloMosaic.ValueIdx (ix2)

variable {F : FTy → Type} [FloatOps F]

/-! ## Places on the ring -/

/-- The device `t` places after `c`, and the device `t` places before. -/
def add (c : Dev nD) (t : Fin 16) : Dev nD := ⟨(c.val + t.val) % 16, Nat.mod_lt _ (by decide)⟩
def sub (c : Dev nD) (t : Fin 16) : Dev nD := ⟨(c.val + (16 - t.val)) % 16, Nat.mod_lt _ (by decide)⟩

theorem add_sub (c : Dev nD) (t : Fin 16) : add (sub c t) t = c := by
  have := c.isLt; have := t.isLt; simp only [nD] at *; refine Fin.ext ?_; simp only [add, sub]; omega
theorem sub_add (c : Dev nD) (t : Fin 16) : sub (add c t) t = c := by
  have := c.isLt; have := t.isLt; simp only [nD] at *; refine Fin.ext ?_; simp only [add, sub]; omega
theorem sub_zero (c : Dev nD) : sub c 0 = c := by revert c; decide
theorem add_zero' (c : Dev nD) : add c 0 = c := by revert c; decide

/-- The device `t` places before, for every `t`, is every device once. -/
def subEquiv (c : Dev nD) : Fin 16 ≃ Dev nD where
  toFun t := sub c t
  invFun d := sub c d
  left_inv t := by
    have := c.isLt; have := t.isLt; simp only [nD] at *; refine Fin.ext ?_; simp only [sub]; omega
  right_inv t := by
    have := c.isLt; have := t.isLt; simp only [nD] at *; refine Fin.ext ?_; simp only [sub]; omega

/-- The device `t` places after, for every `t`, is every device once. -/
def addEquiv (c : Dev nD) : Fin 16 ≃ Dev nD where
  toFun t := add c t
  invFun d := sub d c
  left_inv t := by
    have := c.isLt; have := t.isLt; simp only [nD] at *; refine Fin.ext ?_; simp only [add, sub]; omega
  right_inv t := by
    have := c.isLt; have := t.isLt; simp only [nD] at *; refine Fin.ext ?_; simp only [add, sub]; omega

/-- The ring turned by `t`. -/
def turn (t : Fin 16) : Dev nD ≃ Dev nD := ⟨(add · t), (sub · t), (sub_add · t), (add_sub · t)⟩

theorem peer_eq (c : Dev nD) (e : Fin 15) : peer c e = add c (far e) := by
  refine Fin.ext ?_; show peerNat _ _ = _; rw [peerNat_eq]; simp only [add, far]; congr 1; omega

/-! ## The blocks -/

/-- The rows of the cast input that belong to device `p`. -/
def rowSet (p : Dev nD) : Finset S4096x256.Idx := Finset.univ.filter fun i => (i 0).val / 256 = p.val
/-- The columns of the assembled rows that device `p` fills. -/
def colSet (p : Dev nD) : Finset S256x4096.Idx := Finset.univ.filter fun i => (i 1).val / 256 = p.val
/-- The rows of the weights that belong to device `p`. -/
def wRowSet (p : Dev nD) : Finset S4096x2048.Idx := Finset.univ.filter fun i => (i 0).val / 256 = p.val
/-- Slot `t` of the staged weights. -/
def slotSet (t : Fin 16) : Finset S16x256x2048.Idx := Finset.univ.filter fun i => (i 0).val = t.val

theorem rect_rows {off : Fin 2 → Nat} {inb} (p : Dev nD) (h : off = ![256 * p.val, 0]) :
    (Rect.unit (s := S4096x256) off S256x256.size inb).set = rowSet p := by
  subst h; ext i
  rw [Rect.mem_set_unit, rowSet, Finset.mem_filter]
  have h1 : (i 1).val < 256 := (i 1).isLt
  show (∀ a : Fin 2, _) ↔ _
  rw [Fin.forall_fin_two]
  show (256 * p.val ≤ (i 0).val ∧ (i 0).val < 256 * p.val + 256) ∧ (0 ≤ (i 1).val ∧ (i 1).val < 0 + 256) ↔ _
  simp only [Finset.mem_univ, true_and]; omega

theorem rect_cols {off : Fin 2 → Nat} {inb} (p : Dev nD) (h : off = ![0, 256 * p.val]) :
    (Rect.unit (s := S256x4096) off S256x256.size inb).set = colSet p := by
  subst h; ext i
  rw [Rect.mem_set_unit, colSet, Finset.mem_filter]
  have h1 : (i 0).val < 256 := (i 0).isLt
  show (∀ a : Fin 2, _) ↔ _
  rw [Fin.forall_fin_two]
  show (0 ≤ (i 0).val ∧ (i 0).val < 0 + 256) ∧ (256 * p.val ≤ (i 1).val ∧ (i 1).val < 256 * p.val + 256) ↔ _
  simp only [Finset.mem_univ, true_and]; omega

theorem rect_wRows {off : Fin 2 → Nat} {inb} (p : Dev nD) (h : off = ![256 * p.val, 0]) :
    (Rect.unit (s := S4096x2048) off S256x2048.size inb).set = wRowSet p := by
  subst h; ext i
  rw [Rect.mem_set_unit, wRowSet, Finset.mem_filter]
  have h1 : (i 1).val < 2048 := (i 1).isLt
  show (∀ a : Fin 2, _) ↔ _
  rw [Fin.forall_fin_two]
  show (256 * p.val ≤ (i 0).val ∧ (i 0).val < 256 * p.val + 256) ∧ (0 ≤ (i 1).val ∧ (i 1).val < 0 + 2048) ↔ _
  simp only [Finset.mem_univ, true_and]; omega

theorem rect_slot (t : Fin 16) {inb} :
    (Rect.unit (s := S16x256x2048) ![t.val, 0, 0] S1x256x2048.size inb).set = slotSet t := by
  ext i
  rw [Rect.mem_set_unit, slotSet, Finset.mem_filter]
  have h1 : (i 1).val < 256 := (i 1).isLt
  have h2 : (i 2).val < 2048 := (i 2).isLt
  show (∀ a : Fin 3, _) ↔ _
  rw [Fin.forall_fin_succ, Fin.forall_fin_two]
  show (t.val ≤ (i 0).val ∧ (i 0).val < t.val + 1) ∧ (0 ≤ (i 1).val ∧ (i 1).val < 0 + 256)
    ∧ (0 ≤ (i 2).val ∧ (i 2).val < 0 + 2048) ↔ _
  simp only [Finset.mem_univ, true_and]; omega

theorem off1_eq (c : Dev nD) (t : Fin 16) :
    k0_off1 c (BitVec.ofNat 32 (back t).val) = ![256 * (sub c t).val, 0] := by
  rw [k0_off1_eq]; have := t.isLt; congr 2; simp only [back, sub]; omega
theorem off6_eq (c : Dev nD) (t : Fin 16) :
    k0_off6 c (BitVec.ofNat 32 (back t).val) = ![0, 256 * (sub c t).val] := by
  rw [k0_off6_eq]; have := t.isLt; congr 2; simp only [back, sub]; congr 1; omega
theorem off5_eq (c : Dev nD) (e : Fin 15) :
    k0_off5 c (BitVec.ofNat 32 (1 + e.val)) = ![256 * (add c (far e)).val, 0] := by
  rw [k0_off5_eq]; congr 2; simp only [add, far]; omega

theorem set_wRows (c : Dev nD) (t : Fin 16) : (wRows c t).view.set = wRowSet (sub c t) :=
  (View.set_slice_whole _ _).trans (rect_wRows _ (off1_eq c t))
theorem set_wSlot (t : Fin 16) : (wSlot t).view.set = slotSet t :=
  (View.set_reshape _ _).trans ((View.set_slice_whole _ _).trans (rect_slot t))
theorem set_xTo (c : Dev nD) (e : Fin 15) : (xTo c e).view.set = rowSet (add c (far e)) :=
  (View.set_slice_whole _ _).trans (rect_rows _ (off5_eq c e))
theorem set_xFrom (c : Dev nD) : (xFrom c).view.set = colSet c :=
  (View.set_slice_whole _ _).trans (rect_cols _ (k0_off4_eq c))

/-! ## The contents -/

variable (m : (ℓ : Loc nD τ sig) → Buf (Elt F) ℓ)

/-- The staged input block. -/
def xstg (c : Dev nD) : Vec F S4096x256 .f32 :=
  (win0_0.blk (0 : Fin 1)).view.read (Elt F) (m ((c : Thread nD τ).loc main_arg0))
/-- The input block, cast. -/
def x16F (c : Dev nD) : Vec F S4096x256 .bf16 := k0_pay1 (xstg m c)
/-- The part of device `p`'s cast input that belongs to device `c`. -/
def xPart (p c : Dev nD) : Vec F S256x256 .bf16 := fun x =>
  x16F m p (ix2 ⟨256 * c.val + (x 0).val, by have : (x 0).val < 256 := (x 0).isLt; have := c.isLt; simp only [nD] at *; omega⟩ (x 1))
/-- The weights. -/
def wIn (c : Dev nD) : Vec F S4096x2048 .f32 := m ((c : Thread nD τ).loc main_arg1)
/-- The weight block that device `c` uses at step `t`. -/
def wPart (c : Dev nD) (t : Fin 16) : Vec F S256x2048 .f32 := (wRows c t).view.read (Elt F) (wIn m c)
/-- The assembled rows of device `c`. -/
def xrF (c : Dev nD) : Vec F S256x4096 .bf16 := fun i =>
  xPart m ⟨(i 1).val / 256, by have : (i 1).val < 4096 := (i 1).isLt; simp only [nD]; omega⟩ c
    (ix2 (i 0) ⟨(i 1).val % 256, Nat.mod_lt _ (by decide)⟩)
/-- The staged weights of device `c`: in each slot the block of that step. -/
def wbF (c : Dev nD) : Vec F S16x256x2048 .f32 := fun i =>
  (wSlot (i 0)).view.write (Elt F) (m ((c : Thread nD τ).loc cc0_scratch2)) (wPart m c (i 0)) Finset.univ i

/-- Slot `t` of the staged weights is the block of step `t`. -/
theorem read_wSlot (c : Dev nD) (t : Fin 16) : (wSlot t).view.read (Elt F) (wbF m c) = wPart m c t := by
  funext x
  have h : ((wSlot t).view.emb x) 0 = t := by
    have h := (wSlot t).view.emb_mem_set x
    rw [set_wSlot] at h
    exact Fin.ext (Finset.mem_filter.mp h).2
  have h2 : (wbF m c) ((wSlot t).view.emb x)
      = (wSlot t).view.write (Elt F) (m ((c : Thread nD τ).loc cc0_scratch2)) (wPart m c t) Finset.univ ((wSlot t).view.emb x) := by
    conv_lhs => unfold wbF
    rw [h]
  rw [View.read_apply, h2, View.write_emb_of_mem _ _ (Finset.mem_univ x)]
  rfl

/-- A row of device `p`'s block, in the whole buffer. -/
theorem emb_rows (p : Dev nD) {off : Fin 2 → Nat} {inb} (h : off = ![256 * p.val, 0]) (x : S256x256.Idx) :
    (Rect.unit (s := S4096x256) off S256x256.size inb).emb x
      = ix2 ⟨256 * p.val + (x 0).val, by have : (x 0).val < 256 := (x 0).isLt; have := p.isLt; simp only [nD] at *; omega⟩ (x 1) := by
  subst h
  funext a
  refine Fin.ext ?_
  match a with
  | ⟨0, _⟩ => show 256 * p.val + 1 * (x 0).val = 256 * p.val + (x 0).val; omega
  | ⟨1, _⟩ => show 0 + 1 * (x 1).val = (x 1).val; omega

/-- A column of device `p`'s block, in the whole buffer. -/
theorem emb_cols (p : Dev nD) {off : Fin 2 → Nat} {inb} (h : off = ![0, 256 * p.val]) (x : S256x256.Idx) :
    (Rect.unit (s := S256x4096) off S256x256.size inb).emb x
      = ix2 (x 0) ⟨256 * p.val + (x 1).val, by have : (x 1).val < 256 := (x 1).isLt; have := p.isLt; simp only [nD] at *; omega⟩ := by
  subst h
  funext a
  refine Fin.ext ?_
  match a with
  | ⟨0, _⟩ => show 0 + 1 * (x 0).val = (x 0).val; omega
  | ⟨1, _⟩ => show 256 * p.val + 1 * (x 1).val = 256 * p.val + (x 1).val; omega

/-- The rows of device `p`'s block hold its part of the input. -/
theorem read_rows (c p : Dev nD) {off : Fin 2 → Nat} {inb} (h : off = ![256 * p.val, 0]) (x : S256x256.Idx) :
    x16F m c ((Rect.unit (s := S4096x256) off S256x256.size inb).emb x) = xPart m c p x := by
  rw [emb_rows p h]; rfl

/-- The columns device `p` fills hold its part. -/
theorem read_cols (p c : Dev nD) {off : Fin 2 → Nat} {inb} (h : off = ![0, 256 * p.val]) (x : S256x256.Idx) :
    xrF m c ((Rect.unit (s := S256x4096) off S256x256.size inb).emb x) = xPart m p c x := by
  have h1 : (x 1).val < 256 := (x 1).isLt
  rw [emb_cols p h]
  unfold xrF xPart
  congr 1
  · exact Fin.ext (show (256 * p.val + (x 1).val) / 256 = p.val by omega)
  · funext a
    refine Fin.ext ?_
    match a with
    | ⟨0, _⟩ => rfl
    | ⟨1, _⟩ => show (256 * p.val + (x 1).val) % 256 = (x 1).val; omega

/-- What device `c` sends its `e`-th peer. -/
theorem read_xTo (c : Dev nD) (e : Fin 15) : (xTo c e).view.read (Elt F) (x16F m c) = xPart m c (add c (far e)) :=
  funext fun x => read_rows m c _ (off5_eq c e) x

/-- Where it lands. -/
theorem read_xFrom (p c : Dev nD) : (xFrom p).view.read (Elt F) (xrF m c) = xPart m p c :=
  funext fun x => read_cols m p c (k0_off4_eq p) x

end Cert.A2A

end
-- ==== Proof.Protocol.lean ====
/-
The agreement between the devices: which semaphore cell is paid by whom, and what is handed over with each payment.

* A device's barrier cell takes one unit from each of the fifteen other devices. The device `e + 1` places before hands
  over, with its unit, the columns of its assembled rows that this device fills.
* The receive cell number `t` takes the credit of one block, and with it comes the block of the device `t` places before.
* The send cell number `t` takes the same credit once the rows have left, and gives those rows back.
* The weight cell number `t` takes the credit of one weight block, with the block in its slot.

Everything happens in round 0, each cell being used once. The barrier cells are waited for before anything is received,
so they stand below the receive cells.
-/
module

public import proofs.«01_k».proof.Proof.Blocks
public import proofs.«01_k».proof.Proof.Gen.KernelIdeal.Launch
public import Idealize.ShloMosaic.Lib.Pipeline.Launch
public import Idealize.ShloMosaic.Lib.Pipeline.Kit
public import Idealize.ShloMosaic.Lib.Pipeline.BigSepL
public import Idealize.ShloMosaic.Lib.Tactic

@[expose] public section

set_option maxRecDepth 65536

noncomputable section

namespace Cert.A2A

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

abbrev UB : Type := URounds (GSem nD τ sig) (Fin 15)
abbrev UU : Type := UR sig nD τ × UB

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR

variable (m : (ℓ : Loc nD τ sig) → Buf (Elt F) ℓ)

/-! ## The cells -/

/-- The kernel's own semaphores: send, receive and weight cells, sixteen of each. -/
abbrev osem : Fin 3 × Fin 16 → SemLoc sig
  | (0, t) => .dma (semAt cc0_scratch4 t)
  | (1, t) => .dma (semAt cc0_scratch5 t)
  | (2, t) => .dma (semAt cc0_scratch6 t)
/-- With the barrier semaphore, which belongs to no launch, all of a device's semaphores of this protocol. -/
abbrev Key : Type := Option (Fin 3 × Fin 16)
abbrev csem : Key → SemLoc sig
  | none => .reg barS
  | some k => osem k

abbrev barCell (c : Dev nD) : GSem nD τ sig := ((c : Thread nD τ), .reg barS)
abbrev sendCell (c : Dev nD) (t : Fin 16) : GSem nD τ sig := ((c : Thread nD τ), .dma (semAt cc0_scratch4 t))
abbrev recvCell (c : Dev nD) (t : Fin 16) : GSem nD τ sig := ((c : Thread nD τ), .dma (semAt cc0_scratch5 t))
abbrev wCell (c : Dev nD) (t : Fin 16) : GSem nD τ sig := ((c : Thread nD τ), .dma (semAt cc0_scratch6 t))
abbrev cell (ck : Dev nD × Key) : GSem nD τ sig := ((ck.1 : Thread nD τ), csem ck.2)

theorem csem_injective : Function.Injective csem := by decide +kernel

/-- Which semaphore of the protocol this is, if any. -/
def keyOf (s : SemLoc sig) : Option Key := if h : ∃ k, csem k = s then some h.choose else none
theorem keyOf_csem (k : Key) : keyOf (csem k) = some k := by
  have h : ∃ k', csem k' = csem k := ⟨k, rfl⟩
  unfold keyOf
  rw [dif_pos h]
  exact congrArg some (csem_injective h.choose_spec)

theorem cell_injective : Function.Injective cell := by
  rintro ⟨c, k⟩ ⟨c', k'⟩ h
  have h1 : c = c' := congrArg (fun g : GSem nD τ sig => g.1.1) h
  have h2 : csem k = csem k' := congrArg Prod.snd h
  rw [h1, csem_injective h2]

/-- The credit of one input block, and of one weight block. -/
def Nx : ℕ := (xFrom 0).view.dmaCredit
def Nw : ℕ := (wSlot 0).view.dmaCredit
theorem Nx_pos : 0 < Nx := View.dmaCredit_pos _ (by decide)
theorem Nw_pos : 0 < Nw := View.dmaCredit_pos _ (by decide)

/-! ## Pieces of memory -/

/-- The staged input, the cast input, the assembled rows, the staged weights, the weights, the accumulator, and the
    output block of device `c`, on the elements of `S`. -/
def xPts (c : Dev nD) (S : Finset S4096x256.Idx) (f : Vec F S4096x256 .f32) : sProp 𝕄 :=
  xM.view.loc (c : Thread nD τ) ↦[S]{fullShare} f
def x16Pts (c : Dev nD) (S : Finset S4096x256.Idx) (f : Vec F S4096x256 .bf16) : sProp 𝕄 :=
  x16M.view.loc (c : Thread nD τ) ↦[S]{fullShare} f
def xrPts (c : Dev nD) (S : Finset S256x4096.Idx) (f : Vec F S256x4096 .bf16) : sProp 𝕄 :=
  xrM.view.loc (c : Thread nD τ) ↦[S]{fullShare} f
def wbPts (c : Dev nD) (S : Finset S16x256x2048.Idx) (f : Vec F S16x256x2048 .f32) : sProp 𝕄 :=
  wbM.view.loc (c : Thread nD τ) ↦[S]{fullShare} f
def wPts (c : Dev nD) (S : Finset S4096x2048.Idx) (f : Vec F S4096x2048 .f32) : sProp 𝕄 :=
  wM.view.loc (c : Thread nD τ) ↦[S]{fullShare} f
def accPts (c : Dev nD) (f : Vec F S256x2048 .f32) : sProp 𝕄 :=
  accM.view.loc (c : Thread nD τ) ↦[Finset.univ]{fullShare} f
def oPts (c : Dev nD) (f : Vec F S256x2048 .f32) : sProp 𝕄 :=
  oM.view.loc (c : Thread nD τ) ↦[Finset.univ]{fullShare} f

/-! ## The payments -/

/-- Who pays a cell, by number: everyone the barrier, and one payer each of the other cells that are used. -/
def dutiesK : Key → Finset (Fin 15)
  | none => Finset.univ
  | some (2, _) => {0}
  | some (_, t) => if t = 0 then ∅ else {0}

/-- What a payment is worth. -/
def worth (nx nw : ℕ) : Key → ℕ
  | none => 1
  | some (2, _) => nw
  | some _ => nx
theorem worth_bar (nx nw : ℕ) : worth nx nw none = 1 := rfl
theorem worth_send (nx nw : ℕ) (t : Fin 16) : worth nx nw (some (0, t)) = nx := rfl
theorem worth_recv (nx nw : ℕ) (t : Fin 16) : worth nx nw (some (1, t)) = nx := rfl
theorem worth_w (nx nw : ℕ) (t : Fin 16) : worth nx nw (some (2, t)) = nw := rfl
theorem worth_pos {nx nw : ℕ} (hx : 0 < nx) (hw : 0 < nw) (k : Key) : 0 < worth nx nw k := by
  unfold worth; split
  · exact Nat.one_pos
  · exact hw
  · exact hx
def amountK (k : Key) : ℕ := worth Nx Nw k

/-- With a unit for `c`'s barrier from the device `e + 1` places before: that device's columns for `c`. -/
def barPay (c : Dev nD) (e : Fin 15) : sProp 𝕄 := iprop(∃ f, xrPts (F := F) (sub c (far e)) (colSet c) f)
/-- The rows that went to the device `t` places after, given back. -/
def sendPay (c : Dev nD) (t : Fin 16) : sProp 𝕄 := x16Pts c (rowSet (add c t)) (x16F m c)
/-- The block of the device `t` places before. -/
def recvPay (c : Dev nD) (t : Fin 16) : sProp 𝕄 := xrPts c (colSet (sub c t)) (xrF m c)
/-- The weight block of step `t`, and its source. -/
def wPay (c : Dev nD) (t : Fin 16) : sProp 𝕄 :=
  iprop(wbPts c (slotSet t) (wbF m c) ∗ wPts c (wRowSet (sub c t)) (wIn m c))

/-- What comes with a payment. -/
def payK (c : Dev nD) : Key → Fin 15 → sProp 𝕄
  | none, e => barPay c e
  | some (0, t), _ => sendPay m c t
  | some (1, t), _ => recvPay m c t
  | some (2, t), _ => wPay m c t

/-- The schedule: one round, the payments as above. -/
def sched : Rounds.Schedule (GSem nD τ sig) (Fin 15) 𝕄 where
  duties g r := if r = 0 ∧ g.1.2 = .tc then (keyOf g.2).elim ∅ dutiesK else ∅
  unitless _ := False
  amount g _ _ := (keyOf g.2).elim 1 amountK
  payload g _ d := (keyOf g.2).elim iprop(emp) fun k => payK m g.1.1 k d
  amount_pos g _ _ _ := by
    rcases keyOf g.2 with _ | k
    · exact Nat.one_pos
    · exact worth_pos Nx_pos Nw_pos k

instance payK_storable (c : Dev nD) (k : Key) (d : Fin 15) : BI.Storable (upEmb : UEmb _ 𝕄) (payK m c k d) := by
  unfold payK barPay sendPay recvPay wPay xrPts x16Pts wbPts wPts
  split <;> infer_instance

instance sched_storable (g : GSem nD τ sig) (r : ℕ) (d : Fin 15) :
    BI.Storable (upEmb : UEmb _ 𝕄) ((sched (F := F) m).payload g r d) := by
  show BI.Storable upEmb ((keyOf g.2).elim iprop(emp) fun k => payK m g.1.1 k d)
  rcases keyOf g.2 with _ | k
  · show BI.Storable upEmb iprop(emp); infer_instance
  · show BI.Storable upEmb (payK m g.1.1 k d); infer_instance

theorem duties_cell (c : Dev nD) (k : Key) : (sched (F := F) m).duties (cell (c, k)) 0 = dutiesK k := by
  show (if 0 = 0 ∧ (c : Thread nD τ).2 = .tc then (keyOf (csem k)).elim ∅ dutiesK else ∅) = _
  rw [if_pos ⟨rfl, rfl⟩, keyOf_csem]; rfl
theorem amount_cell (c : Dev nD) (k : Key) (r : ℕ) (d : Fin 15) : (sched (F := F) m).amount (cell (c, k)) r d = amountK k := by
  show (keyOf (csem k)).elim 1 amountK = _
  rw [keyOf_csem]; rfl
theorem payload_cell (c : Dev nD) (k : Key) (r : ℕ) (d : Fin 15) : (sched (F := F) m).payload (cell (c, k)) r d = payK m c k d := by
  show ((keyOf (csem k)).elim iprop(emp) fun k => payK m c k d) = _
  rw [keyOf_csem]; rfl
theorem amount_bar (c : Dev nD) (d : Fin 15) : (sched (F := F) m).amount (barCell c) 0 d = 1 :=
  (amount_cell m c none 0 d).trans (worth_bar Nx Nw)
theorem amount_send (c : Dev nD) (t : Fin 16) : (sched (F := F) m).amount (sendCell c t) 0 0 = Nx :=
  (amount_cell m c (some (0, t)) 0 0).trans (worth_send Nx Nw t)
theorem amount_recv (c : Dev nD) (t : Fin 16) : (sched (F := F) m).amount (recvCell c t) 0 0 = Nx :=
  (amount_cell m c (some (1, t)) 0 0).trans (worth_recv Nx Nw t)
theorem amount_w (c : Dev nD) (t : Fin 16) : (sched (F := F) m).amount (wCell c t) 0 0 = Nw :=
  (amount_cell m c (some (2, t)) 0 0).trans (worth_w Nx Nw t)
theorem duties_later (g : GSem nD τ sig) : ∀ r, 1 ≤ r → (sched (F := F) m).duties g r = ∅ :=
  fun r hr => if_neg fun h => by omega
theorem expect_cell (c : Dev nD) (k : Key) : (sched (F := F) m).expect (cell (c, k)) 0 = (dutiesK k).card * amountK k := by
  unfold Schedule.expect Schedule.amountOf
  rw [duties_cell, Finset.sum_congr rfl fun d _ => amount_cell m c k 0 d, Finset.sum_const, smul_eq_mul]
/-- All that comes with a round, nothing taken yet. -/
theorem rest_cell (c : Dev nD) (k : Key) :
    bigSep ((sched (F := F) m).duties (cell (c, k)) 0 \ ∅) (fun d => (sched (F := F) m).payload (cell (c, k)) 0 d)
      = bigSep (dutiesK k) (fun d => payK m c k d) := by
  rw [Finset.sdiff_empty, duties_cell]
  exact bigSep_congr fun d _ => payload_cell m c k 0 d

theorem far_ne (e : Fin 15) : far e ≠ 0 := by revert e; decide

theorem dutiesK_send (e : Fin 15) : dutiesK (some (0, far e)) = {0} := if_neg (far_ne e)
theorem dutiesK_recv (e : Fin 15) : dutiesK (some (1, far e)) = {0} := if_neg (far_ne e)
theorem dutiesK_w (t : Fin 16) : dutiesK (some (2, t)) = {0} := rfl

/-! ## What a device owes, and the levels -/

/-- A sum of dues over a list, the first of the list outermost. -/
def dues {ι : Type} (g : ι → CellTallies nD τ sig Unit) (base : CellTallies nD τ sig Unit) : List ι → CellTallies nD τ sig Unit
  | [] => base
  | i :: l => dues g base l + g i

theorem dues_apply {ι : Type} (g : ι → CellTallies nD τ sig Unit) (base : CellTallies nD τ sig Unit) (l : List ι)
    (x : GSem nD τ sig) (u : Unit) : dues g base l x u = base x u + (l.map fun i => g i x u).sum := by
  induction l with
  | nil => rfl
  | cons i l ih =>
    rw [dues, Pi.add_apply, Finsupp.add_apply, ih, List.map_cons, List.sum_cons]; omega

/-- The blocks device `c` is to send, and the units it is to signal. -/
def oweX (c : Dev nD) : List (Fin 15) → CellTallies nD τ sig Unit :=
  dues (fun e => tallyAt (recvCell (peer c e) (far e)) () Nx) 0
def oweB (c : Dev nD) : List (Fin 15) → CellTallies nD τ sig Unit :=
  dues (fun e => tallyAt (barCell (peer c e)) () 1) (oweX c upTo15)
def O₀ (c : Dev nD) : CellTallies nD τ sig Unit := oweB c upTo15

theorem oweX_pos {c : Dev nD} {l : List (Fin 15)} {g : GSem nD τ sig} {u : Unit} (h : 0 < oweX c l g u) :
    ∃ d e, g = recvCell d (far e) := by
  unfold oweX at h
  rw [dues_apply] at h
  by_contra hn
  refine absurd h (Nat.not_lt.mpr (Nat.le_of_eq ?_))
  rw [List.map_congr_left (g := fun _ => 0) (fun e _ => ?_), List.map_const', List.sum_replicate]
  · rfl
  · rw [tallyAt_apply, if_neg fun h' => hn ⟨_, e, h'.1⟩]
theorem oweB_pos {c : Dev nD} {l : List (Fin 15)} {g : GSem nD τ sig} {u : Unit} (h : 0 < oweB c l g u) :
    (∃ d e, g = recvCell d (far e)) ∨ ∃ d, g = barCell d := by
  unfold oweB at h
  rw [dues_apply] at h
  by_contra hn
  rw [not_or] at hn
  refine absurd h (Nat.not_lt.mpr (Nat.le_of_eq ?_))
  rw [List.map_congr_left (g := fun _ => 0) (fun e _ => ?_), List.map_const', List.sum_replicate]
  · exact Nat.eq_zero_of_not_pos fun h' => hn.1 (oweX_pos (u := u) (by simpa using h'))
  · rw [tallyAt_apply, if_neg fun h' => hn.2 ⟨_, h'.1⟩]

def L (g : GSem nD τ sig) : Finset Unit := if g.1.2 = .tc then {()} else ∅
/-- Barrier cells at 1, receive cells at 2, all others at 0. -/
def lv (g : GSem nD τ sig) (_ : Unit) : ℕ :=
  match keyOf g.2 with
  | some none => 1
  | some (some (1, _)) => 2
  | _ => 0

theorem L_of_ne (g : GSem nD τ sig) (h : g.1.2 ≠ .tc) : L g = ∅ := if_neg h
theorem L_tc (c : Dev nD) (sm : SemLoc sig) : L ((c : Thread nD τ), sm) = {()} := if_pos rfl
theorem lv_bar (c : Dev nD) (u : Unit) : lv (barCell c) u = 1 := by
  have h : keyOf (.reg barS) = some none := keyOf_csem none
  unfold lv; rw [h]
theorem lv_recv (c : Dev nD) (t : Fin 16) (u : Unit) : lv (recvCell c t) u = 2 := by
  have h : keyOf (.dma (semAt cc0_scratch5 t)) = some (some (1, t)) := keyOf_csem (some (1, t))
  unfold lv; rw [h]; rfl

/-- A device that still owes everything may wait for a cell of the lowest level. -/
theorem mayWait_low (c : Dev nD) (s : SemLoc sig) (hs : lv ((c : Thread nD τ), s) () = 0) :
    (levAts L lv : sProp 𝕄) ⊢ MayWait (c : Thread nD τ) s () (O₀ c) := by
  refine MayOwe.of_cut (L := L) (lev := lv) 0 (fun p hp => by rw [Finset.mem_singleton.mp hp, L_tc]; exact Finset.mem_singleton_self _)
    (fun g u hg => ?_) (fun p hp => by rw [Finset.mem_singleton.mp hp]; exact Nat.le_of_eq hs) (fun g u hg => ?_)
  · rcases oweB_pos hg with ⟨d, e, rfl⟩ | ⟨d, rfl⟩ <;> exact Finset.mem_singleton_self _
  · rcases oweB_pos hg with ⟨d, e, rfl⟩ | ⟨d, rfl⟩
    · rw [lv_recv]; decide
    · rw [lv_bar]; decide

/-- At its barrier a device owes only blocks. -/
theorem mayWait_bar (c : Dev nD) :
    (levAts L lv : sProp 𝕄) ⊢ MayWait (c : Thread nD τ) (.reg barS) () (oweX c upTo15) := by
  refine MayOwe.of_cut (L := L) (lev := lv) 1 (fun p hp => by rw [Finset.mem_singleton.mp hp, L_tc]; exact Finset.mem_singleton_self _)
    (fun g u hg => ?_) (fun p hp => by rw [Finset.mem_singleton.mp hp]; exact Nat.le_of_eq (lv_bar c ())) (fun g u hg => ?_)
  · obtain ⟨d, e, rfl⟩ := oweX_pos hg; exact Finset.mem_singleton_self _
  · obtain ⟨d, e, rfl⟩ := oweX_pos hg; rw [lv_recv]; decide

end Cert.A2A

end
-- ==== Proof.Steps.lean ====
/-
What each group of the body does: one statement per group, from what the group needs to what it leaves.

A loop is handled by one rule. What an item needs and what it leaves are given per item; what the loop carries along is
given by what is still to be done.
-/
module

public import proofs.«01_k».proof.Proof.Protocol

@[expose] public section

set_option maxRecDepth 65536

noncomputable section

namespace Cert.A2A

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ)

abbrev 𝒱₀ : Variants := Variants.none

/-- Program `p` runs on device `c` and ends with `Q`. -/
abbrev run (c : Dev nD) {α : Type} (p : KProg F α) (Q : α → sProp 𝕄) : sProp 𝕄 :=
  wp frame (wpE (defs₀ (F := F)) 𝒱₀ (c : Thread nD τ) none) Set.univ p Q

/-! ## The loop rule -/

theorem run_each (c : Dev nD) {ι : Type} (f : ι → KProg F PUnit) (P : sProp 𝕄) [BI.Persistent P] (pre post : ι → sProp 𝕄)
    (R : List ι → sProp 𝕄) (h : ∀ i l, iprop(P ∗ pre i ∗ R (i :: l)) ⊢ run c (f i) fun _ => iprop(post i ∗ R l)) :
    ∀ l : List ι, iprop(P ∗ bigSepL l pre ∗ R l) ⊢ run c (each f l) fun _ => iprop(bigSepL l post ∗ R [])
  | [] => by
    show _ ⊢ run c (Prog.ret PUnit.unit) _
    unfold run; rw [wp_ret, bigSepL_nil, bigSepL_nil]
    iintro ⟨-, H⟩; imodintro; iexact H
  | i :: l => by
    show _ ⊢ run c (f i >>= fun _ => each f l) _
    unfold run; rw [wp_bind, bigSepL_cons' i l pre, bigSepL_cons' i l post]
    iintro ⟨#HP, ⟨Hi, Hl⟩, HR⟩
    iapply (wp_mono frame _ Set.univ (p := f i) (Q := fun _ => iprop((post i ∗ R l) ∗ (bigSepL l pre ∗ P))) fun _ => by
      iintro ⟨⟨Hi, HR⟩, Hl, #HP⟩
      iapply (wp_mono frame _ Set.univ (p := each f l) (Q := fun _ => iprop(post i ∗ (bigSepL l post ∗ R []))) fun _ => by
        iintro ⟨H1, H2, H3⟩
        isplitl [H1 H2]
        · isplitl [H1] <;> iassumption
        iexact H3)
      iapply (wp_frame_l frame _ Set.univ)
      isplitl [Hi]; · iexact Hi
      iapply (run_each c f P pre post R h l)
      isplitr; · iexact HP
      isplitl [Hl] <;> iassumption)
    iapply (wp_frame_r frame _ Set.univ)
    isplitl [Hi HR]
    · iapply (h i l)
      isplitr; · iexact HP
      isplitl [Hi] <;> iassumption
    isplitl [Hl]; · iexact Hl
    iexact HP

/-- Two programs one after the other, the second with what the first leaves and what it does not need. -/
theorem run_seq (c : Dev nD) {α β : Type} (p : KProg F α) (k : α → KProg F β) (P A B : sProp 𝕄) [BI.Persistent P]
    (Q : α → sProp 𝕄) (Q' : β → sProp 𝕄)
    (h : iprop(P ∗ A) ⊢ run c p Q) (h' : ∀ a, iprop(P ∗ Q a ∗ B) ⊢ run c (k a) Q') :
    iprop(P ∗ A ∗ B) ⊢ run c (p >>= k) Q' := by
  unfold run; rw [wp_bind]
  iintro ⟨#HP, HA, HB⟩
  iapply (wp_mono frame _ Set.univ (p := p) (Q := fun a => iprop(Q a ∗ (P ∗ B))) fun a => by
    iintro ⟨HQ, HP, HB⟩
    iapply (h' a)
    isplitl [HP]; · iexact HP
    isplitl [HQ] <;> iassumption)
  iapply (wp_frame_r frame _ Set.univ)
  isplitl [HA]
  · iapply h; isplitr; · iexact HP
    iexact HA
  isplitr; · iexact HP
  iexact HB

/-! ## What all devices know -/

/-- The cells' invariants, and that every cell has begun. -/
def recs (K : Dev nD × Key → ℕ) : sProp 𝕄 :=
  iprop((bigSep Finset.univ fun ck => cellInv ER (sched m) (K ck) (cell ck)) ∗ bigSep Finset.univ fun ck => reached ER (cell ck) 0)

instance recs_persistent (K : Dev nD × Key → ℕ) : BI.Persistent (recs m K) := by unfold recs; infer_instance

theorem recs_inv (K : Dev nD × Key → ℕ) (c : Dev nD) (k : Key) : recs m K ⊢ cellInv ER (sched m) (K (c, k)) (cell (c, k)) :=
  (show recs m K ⊢ bigSep Finset.univ fun ck => cellInv ER (sched m) (K ck) (cell ck) from by
    unfold recs; iintro ⟨H, -⟩; iexact H).trans (bigSep_elim (Finset.mem_univ (c, k)))
theorem recs_reached (K : Dev nD × Key → ℕ) (c : Dev nD) (k : Key) : recs m K ⊢ reached ER (cell (c, k)) 0 :=
  (show recs m K ⊢ bigSep Finset.univ fun ck => reached ER (cell ck) 0 from by
    unfold recs; iintro ⟨-, H⟩; iexact H).trans (bigSep_elim (Finset.mem_univ (c, k)))

variable (K : Dev nD × Key → ℕ) (c : Dev nD)

/-- What the device still owes, whatever it has waited for. -/
def owing (O : CellTallies nD τ sig Unit) : sProp 𝕄 := iprop(∃ W, owes (c : Thread nD τ) O W)

/-- A wait for all of a cell: what was handed over with its payments comes out. -/
theorem run_wait (k : Key) {w : TpuEff nD τ sig (Elt F) Λ₀ .tc PUnit} {n : ℕ}
    (hw : ∀ Q : PUnit → sProp 𝕄, wpE (defs₀ (F := F)) 𝒱₀ (c : Thread nD τ) none Set.univ w Q = waitSpec (c : Thread nD τ) Set.univ (csem k) n Q)
    (hn : n = (dutiesK k).card * amountK k) (O : CellTallies nD τ sig Unit) :
    iprop(recs m K ∗ cred (tallyAt (cell (c, k)) () n) ∗ owing c O ∗ MayWait (c : Thread nD τ) (csem k) () O ∗ atPos ER (cell (c, k)) 0 ∅ 0)
      ⊢ run (F := F) c (.op w .ret) fun _ => iprop(owing c O ∗ atPos ER (cell (c, k)) 1 ∅ 0 ∗ bigSep (dutiesK k) (fun d => payK m c k d)) := by
  unfold owing
  iintro ⟨#HR, Hc, ⟨%W, HO⟩, HM, Hat⟩
  iapply (Rounds.wp_wait_rest_token 𝒱₀ ER (sched m) (c : Thread nD τ) none (κ := K (c, k)) hw (Set.mem_univ _) ()
    (O := O) (W := W) (R := 0) (m := 0) (T := ∅) (by rw [Nat.zero_add, hn]; exact (expect_cell m c k).symm)) $$ [Hc HO HM Hat]
  · isplitr; · iapply (recs_inv m K c k); iexact HR
    isplitl [Hc]; · iexact Hc
    isplitl [HO]; · iexact HO
    isplitl [HM]; · iexact HM
    iexact Hat
  iintro ⟨HO, Hat, -, Hpay⟩
  rw [wp_ret]; imodintro
  isplitl [HO]; · iexists _; iexact HO
  isplitl [Hat]; · iexact Hat
  iapply (Entails.of_eq (rest_cell m c k)); iexact Hpay

/-! ## The payments as the steps make them -/

theorem duty_bar (c : Dev nD) (e : Fin 15) : e ∈ (sched (F := F) m).duties (barCell c) 0 :=
  (duties_cell m c none).symm ▸ Finset.mem_univ e
theorem duty_w (c : Dev nD) (t : Fin 16) : 0 ∈ (sched (F := F) m).duties (wCell c t) 0 :=
  (duties_cell m c (some (2, t))).symm ▸ Finset.mem_singleton_self _

theorem barPay_intro (c : Dev nD) (e : Fin 15) :
    iprop(∃ f, xrPts (F := F) c (colSet (add c (far e))) f) ⊢ (sched (F := F) m).payload (barCell (peer c e)) 0 e :=
  Entails.of_eq (by
    refine Eq.trans ?_ (payload_cell m (peer c e) none 0 e).symm
    show _ = barPay (peer c e) e
    unfold barPay; rw [peer_eq, sub_add])

theorem wPay_intro (c : Dev nD) (t : Fin 16) (f : Vec F S16x256x2048 .f32) :
    iprop(((wSlot t).view.loc (c : Thread nD τ) ↦[(wSlot t).view.set]{fullShare}
          (wSlot t).view.write (Elt F) f ((wRows c t).view.read (Elt F) (wIn m c)) Finset.univ)
        ∗ (wRows c t).view.loc (c : Thread nD τ) ↦[(wRows c t).view.set]{fullShare} wIn m c)
      ⊢ (sched (F := F) m).payload (wCell c t) 0 0 := by
  refine BIBase.Entails.trans ?_ (Entails.of_eq (payload_cell m c (some (2, t)) 0 0).symm)
  show _ ⊢ wPay m c t
  unfold wPay wbPts wPts
  rw [← set_wSlot t, ← set_wRows c t]
  refine sep_mono_left (Entails.of_eq (pointsTo_congr fun i hi => ?_))
  rw [show (wRows c t).view.read (Elt F) (wIn m c) = (wSlot t).view.read (Elt F) (wbF m c) from (read_wSlot m c t).symm,
    View.write_read_eq_piecewise]
  exact Finset.piecewise_eq_of_mem _ _ _ hi

/-! ## Before the barrier -/

/-- The copy of a weight block starts: its slot and its source stay with the copy. -/
theorem run_wStart (t : Fin 16) (f : Vec F S16x256x2048 .f32) :
    iprop(recs m K ∗ (wbPts c (slotSet t) f ∗ wPts c (wRowSet (sub c t)) (wIn m c) ∗ dutyTok ER (wCell c t) 0 0) ∗ emp)
      ⊢ run (F := F) c (wStart c t) fun _ => iprop(cred (tallyAt (wCell c t) () Nw) ∗ emp) := by
  iintro ⟨#HR, ⟨Hb, Hw, Ht⟩, -⟩
  unfold wStart wbPts wPts
  rw [← set_wSlot t, ← set_wRows c t]
  iapply (Rounds.wp_copy_pointsTo 𝒱₀ ER (sched m) (c : Thread nD τ) none (κ := K (c, some (2, t))) (src := wRows c t) (dst := wSlot t)
    (r := 0) (d := 0) (fs := wIn m c) (fd := f) (q := fullShare) (k := .ret)
    (duty_w m c t)
    () Nw rfl (amount_w m c t)
    (wPay_intro m c t f)) $$ [Hb Hw Ht]
  · isplitr; · iapply (recs_inv m K c (some (2, t))); iexact HR
    isplitl [Hw]; · iexact Hw
    isplitl [Hb]; · iexact Hb
    isplitl [Ht]; · iexact Ht
    iapply (recs_reached m K c (some (2, t))); iexact HR
  iintro Hc
  rw [wp_ret]; imodintro
  isplitl [Hc]; · iexact Hc
  iempintro

/-- A signal to the `e`-th peer, with this device's columns for it. -/
theorem run_tell (e : Fin 15) (l : List (Fin 15)) :
    iprop(recs m K ∗ (dutyTok ER (barCell (add c (far e))) 0 e ∗ ∃ f, xrPts (F := F) c (colSet (add c (far e))) f) ∗ owing c (oweB c (e :: l)))
      ⊢ run (F := F) c (tell c e) fun _ => iprop(emp ∗ owing c (oweB c l)) := by
  unfold owing
  iintro ⟨#HR, ⟨Ht, Hx⟩, ⟨%W, HO⟩⟩
  rw [← peer_eq]
  iapply (Rounds.wp_signal 𝒱₀ ER (sched m) (c : Thread nD τ) none (dst := (peer c e : Thread nD τ)) (κ := K (peer c e, none)) (d := e) (r := 0)
    (duty_bar m (peer c e) e)
    ((amount_bar m (peer c e) e).trans (by decide)) () (oweB c l) rfl) $$ [HO Ht Hx]
  · isplitr; · iapply (recs_inv m K (peer c e) none); iexact HR
    isplitl [HO]; · iexact HO
    isplitl [Ht]; · iexact Ht
    isplitl [Hx]
    · iapply (barPay_intro m c e); rw [← peer_eq]; iexact Hx
    iapply (recs_reached m K (peer c e) none); iexact HR
  iintro HO
  rw [wp_ret]; imodintro
  isplitr; · iempintro
  iexists W; iexact HO

theorem zero2 : (![0, 0] : Fin 2 → Nat) = fun _ => 0 := funext fun a => by fin_cases a <;> rfl

/-- A load of device `p`'s columns touches only them. -/
theorem on_cols (p : Dev nD) {off : Fin 2 → Nat} {inb} (h : off = ![0, 256 * p.val]) :
    xrM.view.setOn (Rect.unit (s := S256x4096) off S256x256.size inb).toLoadRect.set ⊆ colSet p :=
  Finset.subset_of_eq ((Finset.map_refl (s := (Rect.unit (s := S256x4096) off S256x256.size inb).set)).trans (rect_cols p h))

/-- The device's own part, from its rows to its columns. -/
theorem own_part (c : Dev nD) :
    k0_pay2 (x16M.view.readAt (Elt F) (Rect.unit (s := S4096x256) (k0_off2 c) S256x256.size (k0_off2_inb c)).toLoadRect (x16F m c))
      = (xrM.access (Rect.unit (s := S256x4096) (k0_off3 c) S256x256.size (k0_off3_inb c)) : View sig .tc _ _ _).read (Elt F) (xrF m c) := by
  refine (shapeCast_self _ _).trans (funext fun x => ?_)
  exact (read_rows m c c (k0_off2_eq c) x).trans (read_cols m c c (k0_off3_eq c) x).symm

theorem own_landed (c : Dev nD) (g : Vec F S256x4096 .bf16) :
    xrPts c (colSet c) ((xrM.access (Rect.unit (s := S256x4096) (k0_off3 c) S256x256.size (k0_off3_inb c)) : View sig .tc _ _ _).write (Elt F) g
        (k0_pay2 (x16M.view.readAt (Elt F) (Rect.unit (s := S4096x256) (k0_off2 c) S256x256.size (k0_off2_inb c)).toLoadRect (x16F m c))) Finset.univ)
      = xrPts c (colSet c) (xrF m c) := by
  have hr : (xrM.access (Rect.unit (s := S256x4096) (k0_off3 c) S256x256.size (k0_off3_inb c)) : View sig .tc _ _ _).set = colSet c :=
    (View.set_slice_whole _ _).trans (rect_cols _ (k0_off3_eq c))
  rw [own_part, View.write_read_eq_piecewise]
  unfold xrPts
  exact pointsTo_congr fun i hi => Finset.piecewise_eq_of_mem _ _ _ (show i ∈ (xrM.access (Rect.unit (s := S256x4096) (k0_off3 c) S256x256.size (k0_off3_inb c)) : View sig .tc _ _ _).set from hr.symm ▸ hi)

/-- The cast: the whole cast input, and the device's own columns of its assembled rows. -/
theorem run_castOwn :
    iprop(recs m K ∗ (xPts c Finset.univ (xstg m c) ∗ (∃ f, x16Pts (F := F) c Finset.univ f) ∗ ∃ f, xrPts (F := F) c (colSet c) f))
      ⊢ run (F := F) c (castOwn c) fun _ =>
          iprop(xPts c Finset.univ (xstg m c) ∗ x16Pts c Finset.univ (x16F m c) ∗ xrPts c (colSet c) (xrF m c)) := by
  unfold xPts x16Pts xrPts castOwn
  simp only [Prog.lift, Prog.bind_op, Prog.bind_ret]
  iintro ⟨-, Hx, ⟨%f, Hc⟩, ⟨%g, Hr⟩⟩
  iapply (wp_load 𝒱₀ (c : Thread nD τ) none Set.univ (m := xM) (Finset.subset_univ _)) $$ Hx; iintro Hx
  rw [show xM.view.readAt (Elt F) (Rect.unit (s := S4096x256) ![0, 0] S4096x256.size inb_S4096x256_S4096x256_0_0).toLoadRect (xstg m c) = xstg m c
    from Memref.readAt_unit_zero (Elt F) cc0_stg0_0 zero2 _ _]
  iapply (wp_load 𝒱₀ (c : Thread nD τ) none Set.univ (m := x16M) (Finset.subset_univ _)) $$ Hc; iintro Hc
  iapply (wp_store 𝒱₀ (c : Thread nD τ) none Set.univ (m := x16M) (r := Rect.unit (s := S4096x256) ![0, 0] S4096x256.size inb_S4096x256_S4096x256_0_0) (Mk := Finset.univ) (Finset.subset_univ _)) $$ Hc; iintro Hc
  rw [show (x16M.access (Rect.unit (s := S4096x256) ![0, 0] S4096x256.size inb_S4096x256_S4096x256_0_0) : View sig .tc _ _ _).write (Elt F) f
      (k0_pay1 (xstg m c)) Finset.univ = x16F m c
    from Memref.write_access_unit_zero_univ (Elt F) cc0_scratch0 zero2 _ _ _]
  iapply (wp_load 𝒱₀ (c : Thread nD τ) none Set.univ (m := x16M) (Finset.subset_univ _)) $$ Hc; iintro Hc
  have hr : (xrM.access (Rect.unit (s := S256x4096) (k0_off3 c) S256x256.size (k0_off3_inb c)) : View sig .tc _ _ _).set = colSet c :=
    (View.set_slice_whole _ _).trans (rect_cols _ (k0_off3_eq c))
  iapply (wp_load 𝒱₀ (c : Thread nD τ) none Set.univ (m := xrM) (r := (Rect.unit (s := S256x4096) (k0_off3 c) S256x256.size (k0_off3_inb c)).toLoadRect) (on_cols c (k0_off3_eq c))) $$ Hr; iintro Hr
  iapply (wp_store 𝒱₀ (c : Thread nD τ) none Set.univ (m := xrM) (r := Rect.unit (s := S256x4096) (k0_off3 c) S256x256.size (k0_off3_inb c)) (Mk := Finset.univ) (Finset.subset_of_eq hr)) $$ Hr; iintro Hr
  rw [wp_ret]
  imodintro
  isplitl [Hx]; · iexact Hx
  isplitl [Hc]; · iexact Hc
  ihave Hr' := (Entails.of_eq (own_landed m c g)) $$ [Hr]
  · unfold xrPts; iexact Hr
  unfold xrPts
  iexact Hr'

/-! ## The barrier and the sends -/

theorem Nx_copy (c : Dev nD) : (xFrom c).view.dmaCredit = Nx := rfl

/-- The wait at the barrier: every other device's columns for this one. -/
theorem run_barrier :
    iprop(recs m K ∗ (cred (tallyAt (barCell c) () 15) ∗ owing c (oweX c upTo15) ∗ levAts L lv ∗ atPos ER (barCell c) 0 ∅ 0))
      ⊢ run (F := F) c (semWaitWord barS 15#32) fun _ =>
          iprop(owing c (oweX c upTo15) ∗ atPos ER (barCell c) 1 ∅ 0 ∗ bigSep Finset.univ fun e => barPay c e) := by
  iintro ⟨#HR, Hc, HO, HL, Hat⟩
  iapply (run_wait m K c none (w := .semWait barS (15#32).toInt.toNat) (n := 15) (wpE_semWait_eq 𝒱₀ (c : Thread nD τ) none Set.univ) (by
    unfold amountK; rw [worth_bar]; rfl) (oweX c upTo15))
  isplitr; · iexact HR
  isplitl [Hc]; · iexact Hc
  isplitl [HO]; · iexact HO
  isplitl [HL]; · iapply (mayWait_bar c); iexact HL
  iexact Hat

theorem duty_send (c : Dev nD) (e : Fin 15) : 0 ∈ (sched (F := F) m).duties (sendCell c (far e)) 0 := by
  have h := duties_cell m c (some (0, far e))
  rw [dutiesK_send] at h
  exact h.symm ▸ Finset.mem_singleton_self _
theorem duty_recv (c : Dev nD) (e : Fin 15) : 0 ∈ (sched (F := F) m).duties (recvCell c (far e)) 0 := by
  have h := duties_cell m c (some (1, far e))
  rw [dutiesK_recv] at h
  exact h.symm ▸ Finset.mem_singleton_self _

theorem sendPay_intro (c : Dev nD) (e : Fin 15) :
    iprop((xTo c e).view.loc (c : Thread nD τ) ↦[(xTo c e).view.set]{fullShare} x16F m c)
      ⊢ (sched (F := F) m).payload (sendCell c (far e)) 0 0 :=
  Entails.of_eq (by
    refine Eq.trans ?_ (payload_cell m c (some (0, far e)) 0 0).symm
    show _ = sendPay m c (far e)
    unfold sendPay x16Pts; rw [set_xTo])

theorem recvPay_intro (c : Dev nD) (e : Fin 15) (f : Vec F S256x4096 .bf16) :
    iprop((xFrom c).view.loc ((peer c e : Dev nD) : Thread nD τ) ↦[(xFrom c).view.set]{fullShare}
        (xFrom c).view.write (Elt F) f ((xTo c e).view.read (Elt F) (x16F m c)) Finset.univ)
      ⊢ (sched (F := F) m).payload (recvCell (peer c e) (far e)) 0 0 :=
  Entails.of_eq (by
    refine Eq.trans ?_ (payload_cell m (peer c e) (some (1, far e)) 0 0).symm
    show _ = recvPay m (peer c e) (far e)
    unfold recvPay xrPts
    rw [peer_eq, sub_add, ← set_xFrom c]
    refine pointsTo_congr fun i hi => ?_
    rw [show (xTo c e).view.read (Elt F) (x16F m c) = (xFrom c).view.read (Elt F) (xrF m (add c (far e)))
      from (read_xTo m c e).trans (read_xFrom m c _).symm, View.write_read_eq_piecewise]
    exact Finset.piecewise_eq_of_mem _ _ _ hi)

/-- A send starts: the rows stay with it, and the peer's columns. -/
theorem run_send (e : Fin 15) (l : List (Fin 15)) :
    iprop(recs m K ∗ (x16Pts c (rowSet (add c (far e))) (x16F m c) ∗ (∃ f, xrPts (F := F) (add c (far e)) (colSet c) f)
          ∗ dutyTok ER (sendCell c (far e)) 0 0 ∗ dutyTok ER (recvCell (add c (far e)) (far e)) 0 0)
        ∗ owing c (oweX c (e :: l)))
      ⊢ run (F := F) c (send c e) fun _ => iprop(cred (tallyAt (sendCell c (far e)) () Nx) ∗ owing c (oweX c l)) := by
  unfold owing x16Pts xrPts
  rw [← peer_eq]
  iintro ⟨#HR, ⟨Hx, ⟨%f, Hr⟩, Ht, Ht'⟩, ⟨%W, HO⟩⟩
  rw [show rowSet (peer c e) = (xTo c e).view.set from by rw [peer_eq]; exact (set_xTo c e).symm, ← set_xFrom c]
  iapply (Rounds.wp_send_pointsTo 𝒱₀ ER (sched m) (c : Thread nD τ) none (κ₁ := K (c, some (0, far e))) (κ₂ := K (peer c e, some (1, far e)))
    (c' := ((peer c e : Dev nD) : Thread nD τ)) (src := xTo c e) (dst := xFrom c) (fs := x16F m c) (fd := f) (q := fullShare)
    (r₁ := 0) (r₂ := 0) (d₁ := 0) (d₂ := 0) (k := .ret) (duty_send m c e) (duty_recv m (peer c e) e) () () Nx (Nx_copy c)
    (amount_send m c (far e)) (amount_recv m (peer c e) (far e)) (oweX c l) rfl (W := W) (sendPay_intro m c e) (recvPay_intro m c e f))
    $$ [Hx Hr Ht Ht' HO]
  · isplitr; · iapply (recs_inv m K c (some (0, far e))); iexact HR
    isplitr; · iapply (recs_inv m K (peer c e) (some (1, far e))); iexact HR
    isplitl [Hx]; · iexact Hx
    isplitl [Hr]; · iexact Hr
    isplitl [HO]; · iexact HO
    isplitl [Ht]; · iexact Ht
    isplitr; · iapply (recs_reached m K c (some (0, far e))); iexact HR
    isplitl [Ht']; · iexact Ht'
    iapply (recs_reached m K (peer c e) (some (1, far e))); iexact HR
  iintro ⟨Hc, HO⟩
  rw [wp_ret]; imodintro
  isplitl [Hc]; · iexact Hc
  iexists W; iexact HO

end Cert.A2A

end
-- ==== Proof.Accum.lean ====
/-
The accumulation: each step waits for its blocks, multiplies them and adds the product to the accumulator.
-/
module

public import proofs.«01_k».proof.Proof.Steps

@[expose] public section

set_option maxRecDepth 65536

noncomputable section

namespace Cert.A2A

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ)

/-! ## What is computed -/

/-- Slot `t` of the staged weights, as it is read. -/
def wBlk (c : Dev nD) (t : Fin 16) : Vec F S1x256x2048 .f32 :=
  wbM.view.readAt (Elt F) (Rect.unit (s := S16x256x2048) ![t.val, 0, 0] S1x256x2048.size (inb_slot t)).toLoadRect (wbF m c)
/-- The accumulator after the first step, -/
def accFirst (c : Dev nD) : Vec F S256x2048 .f32 := k0_pay3 (xPart m (sub c 0) c) (wBlk m c 0)
/-- what a later step makes of it, -/
def accNext (c : Dev nD) (A : Vec F S256x2048 .f32) (e : Fin 15) : Vec F S256x2048 .f32 :=
  k0_pay4 (xPart m (sub c (far e)) c) (wBlk m c (far e)) A
/-- and after all of them. -/
def accAll (c : Dev nD) : Vec F S256x2048 .f32 := upTo15.foldl (accNext m c) (accFirst m c)
/-- The device's block of the result. -/
def outF (c : Dev nD) : Vec F S256x2048 .f32 := k0_pay22 (accAll m c)

theorem read_xBlk (c : Dev nD) (t : Fin 16) :
    xrM.view.readAt (Elt F) (Rect.unit (s := S256x4096) (k0_off6 c (BitVec.ofNat 32 (back t).val)) S256x256.size
      (k0_off6_inb c (back t))).toLoadRect (xrF m c) = xPart m (sub c t) c :=
  funext fun x => read_cols m (sub c t) c (off6_eq c t) x

theorem on_slot (t : Fin 16) :
    wbM.view.setOn (Rect.unit (s := S16x256x2048) ![t.val, 0, 0] S1x256x2048.size (inb_slot t)).toLoadRect.set ⊆ slotSet t :=
  Finset.subset_of_eq ((Finset.map_refl (s := (Rect.unit (s := S16x256x2048) ![t.val, 0, 0] S1x256x2048.size (inb_slot t)).set)).trans (rect_slot t))

variable (c : Dev nD)

/-! ## The loads and the stores -/

/-- Reading an input block, and what follows. -/
theorem run_xLoad {α : Type} {Q : α → sProp 𝕄} (t : Fin 16) (k : Vec F S256x256 .bf16 → KProg F α) :
    iprop(recvPay m c t ∗ (recvPay m c t -∗ run c (k (xPart m (sub c t) c)) Q)) ⊢ run c (xLoad c t >>= k) Q := by
  unfold recvPay xrPts xLoad run
  simp only [Prog.lift, Prog.bind_op, Prog.bind_ret]
  iintro ⟨Hx, Hk⟩
  iapply (wp_load 𝒱₀ (c : Thread nD τ) none Set.univ (m := xrM) (on_cols (sub c t) (off6_eq c t))) $$ Hx; iintro Hx
  rw [read_xBlk]
  iapply Hk; iexact Hx

/-- Reading a weight block, and what follows. -/
theorem run_wLoad {α : Type} {Q : α → sProp 𝕄} (t : Fin 16) (k : Vec F S1x256x2048 .f32 → KProg F α) :
    iprop(wbPts c (slotSet t) (wbF m c) ∗ (wbPts c (slotSet t) (wbF m c) -∗ run c (k (wBlk m c t)) Q)) ⊢ run c (wLoad t >>= k) Q := by
  unfold wbPts wLoad run wBlk
  simp only [Prog.lift, Prog.bind_op, Prog.bind_ret]
  iintro ⟨Hx, Hk⟩
  iapply (wp_load 𝒱₀ (c : Thread nD τ) none Set.univ (m := wbM) (on_slot t)) $$ Hx; iintro Hx
  iapply Hk; iexact Hx

/-- Reading the accumulator, and what follows. -/
theorem run_accLoad {α : Type} {Q : α → sProp 𝕄} (A : Vec F S256x2048 .f32) (k : Vec F S256x2048 .f32 → KProg F α) :
    iprop(accPts c A ∗ (accPts c A -∗ run c (k A) Q)) ⊢ run c (accLoad >>= k) Q := by
  unfold accPts accLoad run
  simp only [Prog.lift, Prog.bind_op, Prog.bind_ret]
  iintro ⟨Hx, Hk⟩
  iapply (wp_load 𝒱₀ (c : Thread nD τ) none Set.univ (m := accM) (Finset.subset_univ _)) $$ Hx; iintro Hx
  rw [show accM.view.readAt (Elt F) (Rect.unit (s := S256x2048) ![0, 0] S256x2048.size inb_S256x2048_S256x2048_0_0).toLoadRect A = A
    from Memref.readAt_unit_zero (Elt F) cc0_scratch3 zero2 _ _]
  iapply Hk; iexact Hx

/-- Writing the accumulator. -/
theorem run_accStore (A v : Vec F S256x2048 .f32) :
    accPts c A ⊢ run c (accStore v) fun _ => accPts c v := by
  unfold accPts accStore run
  simp only [Prog.lift]
  iintro Hx
  iapply (wp_store 𝒱₀ (c : Thread nD τ) none Set.univ (m := accM)
    (r := Rect.unit (s := S256x2048) ![0, 0] S256x2048.size inb_S256x2048_S256x2048_0_0) (Mk := Finset.univ) (Finset.subset_univ _)) $$ Hx
  iintro Hx
  rw [show (accM.access (Rect.unit (s := S256x2048) ![0, 0] S256x2048.size inb_S256x2048_S256x2048_0_0) : View sig .tc _ _ _).write (Elt F) A
      v Finset.univ = v from Memref.write_access_unit_zero_univ (Elt F) cc0_scratch3 zero2 _ _ _, wp_ret]
  imodintro; iexact Hx

/-! ## The steps -/

variable (K : Dev nD × Key → ℕ)

/-- A wait that no pending signal of this device can hold up. -/
theorem run_waitFree (k : Key) {w : TpuEff nD τ sig (Elt F) Λ₀ .tc PUnit} {p : KProg F PUnit} {n : ℕ} (hp : p = .op w .ret)
    (hw : ∀ Q : PUnit → sProp 𝕄, wpE (defs₀ (F := F)) 𝒱₀ (c : Thread nD τ) none Set.univ w Q = waitSpec (c : Thread nD τ) Set.univ (csem k) n Q)
    (hn : n = (dutiesK k).card * amountK k) {P : sProp 𝕄} (hP : bigSep (dutiesK k) (fun d => payK m c k d) = P) :
    iprop(recs m K ∗ (cred (tallyAt (cell (c, k)) () n) ∗ owing c 0 ∗ atPos ER (cell (c, k)) 0 ∅ 0))
      ⊢ run (F := F) c p fun _ => iprop(owing c 0 ∗ atPos ER (cell (c, k)) 1 ∅ 0 ∗ P) := by
  subst hp hP
  iintro ⟨#HR, Hc, HO, Hat⟩
  iapply (run_wait m K c k hw hn 0)
  isplitr; · iexact HR
  isplitl [Hc]; · iexact Hc
  isplitl [HO]; · iexact HO
  isplitr; · rw [MayWait_zero]; iempintro
  iexact Hat

theorem pay_send (e : Fin 15) : bigSep (dutiesK (some (0, far e))) (fun d => payK m c (some (0, far e)) d) = sendPay m c (far e) := by
  rw [dutiesK_send, bigSep_singleton]; rfl
theorem pay_recv (e : Fin 15) : bigSep (dutiesK (some (1, far e))) (fun d => payK m c (some (1, far e)) d) = recvPay m c (far e) := by
  rw [dutiesK_recv, bigSep_singleton]; rfl
theorem pay_w (t : Fin 16) : bigSep (dutiesK (some (2, t))) (fun d => payK m c (some (2, t)) d) = wPay m c t := by
  rw [dutiesK_w, bigSep_singleton]; rfl
theorem full_send (e : Fin 15) : Nx = (dutiesK (some (0, far e))).card * amountK (some (0, far e)) := by
  unfold amountK; rw [worth_send, dutiesK_send, Finset.card_singleton, Nat.one_mul]
theorem full_recv (e : Fin 15) : Nx = (dutiesK (some (1, far e))).card * amountK (some (1, far e)) := by
  unfold amountK; rw [worth_recv, dutiesK_recv, Finset.card_singleton, Nat.one_mul]
theorem full_w (t : Fin 16) : Nw = (dutiesK (some (2, t))).card * amountK (some (2, t)) := by
  unfold amountK; rw [worth_w, dutiesK_w, Finset.card_singleton, Nat.one_mul]

/-- The wait for a weight block, -/
theorem run_wWait (t : Fin 16) :
    iprop(recs m K ∗ (cred (tallyAt (wCell c t) () Nw) ∗ owing c 0 ∗ atPos ER (wCell c t) 0 ∅ 0))
      ⊢ run (F := F) c (wWait c t) fun _ => iprop(owing c 0 ∗ atPos ER (wCell c t) 1 ∅ 0 ∗ wPay m c t) :=
  run_waitFree m c K (some (2, t)) (p := wWait c t) rfl (fun _ => rfl) (full_w t) (pay_w m c t)

/-- for an input block, -/
theorem run_xWait (e : Fin 15) :
    iprop(recs m K ∗ (cred (tallyAt (recvCell c (far e)) () Nx) ∗ owing c 0 ∗ atPos ER (recvCell c (far e)) 0 ∅ 0))
      ⊢ run (F := F) c (xWait (far e)) fun _ => iprop(owing c 0 ∗ atPos ER (recvCell c (far e)) 1 ∅ 0 ∗ recvPay m c (far e)) :=
  run_waitFree m c K (some (1, far e)) (p := xWait (far e)) rfl (fun _ => rfl) (full_recv e) (pay_recv m c e)

/-- and for a send. -/
theorem run_sendWait (e : Fin 15) (l : List (Fin 15)) :
    iprop(recs m K ∗ (cred (tallyAt (sendCell c (far e)) () Nx) ∗ atPos ER (sendCell c (far e)) 0 ∅ 0) ∗ owing c 0)
      ⊢ run (F := F) c (sendWait c e) fun _ => iprop((atPos ER (sendCell c (far e)) 1 ∅ 0 ∗ sendPay m c (far e)) ∗ owing c 0) := by
  refine BIBase.Entails.trans ?_ ((run_waitFree m c K (some (0, far e)) (p := sendWait c e) rfl (fun _ => rfl) (full_send e)
    (pay_send m c e)).trans (wp_mono frame _ Set.univ fun _ => ?_))
  · iintro ⟨#HR, ⟨Hc, Hat⟩, HO⟩
    isplitr; · iexact HR
    isplitl [Hc]; · iexact Hc
    isplitl [HO] <;> iassumption
  iintro ⟨HO, Hat, Hp⟩
  isplitl [Hat Hp]
  · isplitl [Hat] <;> iassumption
  iexact HO

/-- What the first step leaves. -/
def firstPost : sProp 𝕄 :=
  iprop(owing c 0 ∗ atPos ER (wCell c 0) 1 ∅ 0 ∗ wPay m c 0 ∗ recvPay m c 0 ∗ accPts c (accFirst m c))

theorem run_first :
    iprop(recs m K ∗ (cred (tallyAt (wCell c 0) () Nw) ∗ owing c 0 ∗ atPos ER (wCell c 0) 0 ∅ 0)
        ∗ (recvPay m c 0 ∗ ∃ A, accPts (F := F) c A))
      ⊢ run (F := F) c (first c) fun _ => firstPost m c := by
  refine run_seq c (wWait c 0) _ (recs m K) _ _ _ _ (run_wWait m c K 0) fun _ => ?_
  unfold wPay
  iintro ⟨-, ⟨HO, Hat, Hb, Hw⟩, Hx, ⟨%A, HA⟩⟩
  iapply (run_xLoad m c 0)
  isplitl [Hx]; · iexact Hx
  iintro Hx
  iapply (run_wLoad m c 0)
  isplitl [Hb]; · iexact Hb
  iintro Hb
  iapply (run_accLoad c A)
  isplitl [HA]; · iexact HA
  iintro HA
  iapply (wp_mono frame _ Set.univ (p := accStore (F := F) (accFirst m c))
    (Q := fun _ => iprop(accPts c (accFirst m c) ∗ (owing c 0 ∗ atPos ER (wCell c 0) 1 ∅ 0 ∗ wPay m c 0 ∗ recvPay m c 0))) fun _ => by
    unfold firstPost
    iintro ⟨HA, HO, Hat, Hw, Hx⟩
    isplitl [HO]; · iexact HO
    isplitl [Hat]; · iexact Hat
    isplitl [Hw]; · iexact Hw
    isplitl [Hx]; · iexact Hx
    iexact HA)
  iapply (wp_frame_r frame _ Set.univ)
  isplitl [HA]; · iapply (run_accStore c A); iexact HA
  isplitl [HO]; · iexact HO
  isplitl [Hat]; · iexact Hat
  isplitl [Hb Hw]
  · unfold wPay; isplitl [Hb] <;> iassumption
  iexact Hx

/-- What a later step needs and leaves. -/
def nextPre (e : Fin 15) : sProp 𝕄 :=
  iprop((cred (tallyAt (wCell c (far e)) () Nw) ∗ atPos ER (wCell c (far e)) 0 ∅ 0)
    ∗ cred (tallyAt (recvCell c (far e)) () Nx) ∗ atPos ER (recvCell c (far e)) 0 ∅ 0)
def nextPost (e : Fin 15) : sProp 𝕄 :=
  iprop((atPos ER (wCell c (far e)) 1 ∅ 0 ∗ wPay m c (far e)) ∗ atPos ER (recvCell c (far e)) 1 ∅ 0 ∗ recvPay m c (far e))
/-- The accumulator with the steps of `l` still to come. -/
def accOf (l : List (Fin 15)) : sProp 𝕄 :=
  iprop(owing c 0 ∗ ∃ A, ⌜l.foldl (accNext m c) A = accAll m c⌝ ∗ accPts c A)

theorem run_next (e : Fin 15) (l : List (Fin 15)) :
    iprop(recs m K ∗ nextPre c e ∗ accOf m c (e :: l)) ⊢ run (F := F) c (next c e) fun _ => iprop(nextPost m c e ∗ accOf m c l) := by
  refine BIBase.Entails.trans ?_ (run_seq c (wWait c (far e)) _ (recs m K) _
    iprop((cred (tallyAt (recvCell c (far e)) () Nx) ∗ atPos ER (recvCell c (far e)) 0 ∅ 0)
      ∗ ∃ A, ⌜(e :: l).foldl (accNext m c) A = accAll m c⌝ ∗ accPts c A) _ _ (run_wWait m c K (far e)) fun _ => ?_)
  · unfold nextPre accOf
    iintro ⟨#HR, ⟨⟨Hc, Hat⟩, Hc', Hat'⟩, HO, HA⟩
    isplitr; · iexact HR
    isplitl [Hc Hat HO]
    · isplitl [Hc]; · iexact Hc
      isplitl [HO] <;> iassumption
    isplitl [Hc' Hat']
    · isplitl [Hc'] <;> iassumption
    iexact HA
  refine BIBase.Entails.trans ?_ (run_seq c (xWait (far e)) _ (recs m K) _
    iprop((atPos ER (wCell c (far e)) 1 ∅ 0 ∗ wPay m c (far e))
      ∗ ∃ A, ⌜(e :: l).foldl (accNext m c) A = accAll m c⌝ ∗ accPts c A) _ _ (run_xWait m c K e) fun _ => ?_)
  · iintro ⟨#HR, ⟨HO, Hat, Hw⟩, ⟨Hc', Hat'⟩, HA⟩
    isplitr; · iexact HR
    isplitl [Hc' Hat' HO]
    · isplitl [Hc']; · iexact Hc'
      isplitl [HO] <;> iassumption
    isplitl [Hat Hw]
    · isplitl [Hat] <;> iassumption
    iexact HA
  unfold wPay
  iintro ⟨-, ⟨HO, Hat', Hx⟩, ⟨Hat, Hb, Hw⟩, ⟨%A, %hA, HA⟩⟩
  iapply (run_xLoad m c (far e))
  isplitl [Hx]; · iexact Hx
  iintro Hx
  iapply (run_wLoad m c (far e))
  isplitl [Hb]; · iexact Hb
  iintro Hb
  iapply (run_accLoad c A)
  isplitl [HA]; · iexact HA
  iintro HA
  iapply (run_accLoad c A)
  isplitl [HA]; · iexact HA
  iintro HA
  iapply (wp_mono frame _ Set.univ (p := accStore (F := F) (accNext m c A e))
    (Q := fun _ => iprop(accPts c (accNext m c A e) ∗ (nextPost m c e ∗ owing c 0))) fun _ => by
    unfold accOf
    iintro ⟨HA, Hp, HO⟩
    isplitl [Hp]; · iexact Hp
    isplitl [HO]; · iexact HO
    iexists (accNext m c A e)
    isplitr; · ipureintro; exact hA
    iexact HA)
  iapply (wp_frame_r frame _ Set.univ)
  isplitl [HA]; · iapply (run_accStore c A); iexact HA
  isplitr [HO]
  · unfold nextPost wPay
    isplitl [Hat Hb Hw]
    · isplitl [Hat]; · iexact Hat
      isplitl [Hb] <;> iassumption
    isplitl [Hat'] <;> iassumption
  iexact HO

/-- The result is written. -/
theorem run_finish :
    iprop(recs m K ∗ (accPts c (accAll m c) ∗ ∃ f, oPts (F := F) c f))
      ⊢ run (F := F) c finish fun _ => iprop(accPts c (accAll m c) ∗ oPts c (outF m c)) := by
  unfold finish
  iintro ⟨-, HA, ⟨%f, Ho⟩⟩
  iapply (run_accLoad c (accAll m c))
  isplitl [HA]; · iexact HA
  iintro HA
  unfold oPts
  simp only [Prog.lift, Prog.bind_op, Prog.bind_ret]
  iapply (wp_load 𝒱₀ (c : Thread nD τ) none Set.univ (m := oM) (Finset.subset_univ _)) $$ Ho; iintro Ho
  iapply (wp_store 𝒱₀ (c : Thread nD τ) none Set.univ (m := oM)
    (r := Rect.unit (s := S256x2048) ![0, 0] S256x2048.size inb_S256x2048_S256x2048_0_0) (Mk := Finset.univ) (Finset.subset_univ _)) $$ Ho
  iintro Ho
  rw [show (oM.access (Rect.unit (s := S256x2048) ![0, 0] S256x2048.size inb_S256x2048_S256x2048_0_0) : View sig .tc _ _ _).write (Elt F) f
      (k0_pay22 (accAll m c)) Finset.univ = outF m c from Memref.write_access_unit_zero_univ (Elt F) cc0_stg1_0 zero2 _ _ _, wp_ret]
  imodintro
  isplitl [HA]; · iexact HA
  iexact Ho

end Cert.A2A

end
-- ==== Proof.Whole.lean ====
/-
The whole body on one device: what it takes, and what it leaves.
-/
module

public import proofs.«01_k».proof.Proof.Accum

@[expose] public section

set_option maxRecDepth 65536

noncomputable section

namespace Cert.A2A

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (K : Dev nD × Key → ℕ) (c : Dev nD)

/-! ## Families over the steps -/

theorem upTo15_all (Φ : Fin 15 → sProp 𝕄) : bigSep Finset.univ Φ = bigSepL upTo15 Φ :=
  bigSep_univ_eq_bigSepL upTo15 (by decide) (by decide) Φ
theorem upTo16_all (Φ : Fin 16 → sProp 𝕄) : bigSep Finset.univ Φ = bigSepL upTo16 Φ :=
  bigSep_univ_eq_bigSepL upTo16 (by decide) (by decide) Φ

/-- All sixteen: the first, and those of the later steps. -/
theorem upTo16_split (Φ : Fin 16 → sProp 𝕄) : bigSepL upTo16 Φ = iprop(Φ 0 ∗ bigSepL upTo15 fun e => Φ (far e)) :=
  (congrArg (bigSepL · Φ) (show upTo16 = 0 :: upTo15.map far from by decide)).trans
    ((bigSepL_cons' 0 _ Φ).trans (congrArg (fun X => iprop(Φ 0 ∗ X)) (bigSepL_map far upTo15 Φ)))

theorem upTo15_sep (Φ Ψ : Fin 15 → sProp 𝕄) : bigSepL upTo15 (fun e => iprop(Φ e ∗ Ψ e)) = iprop(bigSepL upTo15 Φ ∗ bigSepL upTo15 Ψ) := by
  simp only [← upTo15_all]; exact bigSep_sep' _ Φ Ψ
theorem upTo16_sep (Φ Ψ : Fin 16 → sProp 𝕄) : bigSepL upTo16 (fun e => iprop(Φ e ∗ Ψ e)) = iprop(bigSepL upTo16 Φ ∗ bigSepL upTo16 Ψ) := by
  simp only [← upTo16_all]; exact bigSep_sep' _ Φ Ψ

/-- The same family met in the opposite order. -/
theorem upTo15_rev (Φ : Fin 15 → sProp 𝕄) : bigSep Finset.univ Φ = bigSepL upTo15 fun e => Φ e.rev :=
  (bigSep_univ_equiv Fin.revPerm Φ).trans (upTo15_all _)

/-- All the semaphores of a device. -/
theorem keys_split (Φ : Key → sProp 𝕄) :
    bigSep Finset.univ Φ = iprop(Φ none ∗ (bigSepL upTo16 fun t => Φ (some (0, t)))
      ∗ (bigSepL upTo16 fun t => Φ (some (1, t))) ∗ bigSepL upTo16 fun t => Φ (some (2, t))) := by
  rw [bigSep_univ_eq_bigSepL (none :: (upTo16.map (fun t => some ((0 : Fin 3), t)) ++ (upTo16.map (fun t => some ((1 : Fin 3), t))
      ++ upTo16.map (fun t => some ((2 : Fin 3), t))))) (by decide) (by decide) Φ,
    bigSepL_cons', bigSepL_append, bigSepL_append, bigSepL_map, bigSepL_map, bigSepL_map]

theorem sub_far_rev (e : Fin 15) : sub c (far e.rev) = add c (far e) :=
  Fin.ext (by
    have hc := c.isLt
    have he := e.isLt
    simp only [sub, add, far, Fin.rev]
    norm_num [nD] at *
    omega)

/-! ## The buffers in blocks -/

/-- A buffer whose elements lie in sixteen blocks, in blocks. -/
theorem in_blocks (ℓ : Loc nD τ sig) (f : Buf (Elt F) ℓ) (S : Fin 16 → Finset (Idx ℓ)) (κ : Idx ℓ → ℕ) (hκ : ∀ i, κ i < 16)
    (e : Fin 16 ≃ Fin 16) (hS : ∀ t i, i ∈ S t ↔ κ i = (e t).val) :
    (ℓ ↦[Finset.univ]{fullShare} f : sProp 𝕄) = bigSepL upTo16 fun t => ℓ ↦[S t]{fullShare} f := by
  have hu : (Finset.univ : Finset (Idx ℓ)) = Finset.univ.biUnion S := by
    ext i
    simp only [Finset.mem_univ, Finset.mem_biUnion, true_and, true_iff]
    exact ⟨e.symm ⟨κ i, hκ i⟩, (hS _ i).mpr (by rw [e.apply_symm_apply])⟩
  rw [← upTo16_all, ← pointsTo_biUnion Finset.univ _ fun t _ t' _ h => ?_, ← hu]
  exact Finset.disjoint_left.mpr fun i hi hi' => h (e.injective (Fin.ext (((hS t i).mp hi).symm.trans ((hS t' i).mp hi'))))

theorem lt_div {a : ℕ} (h : a < 4096) : a / 256 < 16 := by omega

/-- The cast input, by the devices its rows go to; -/
theorem x16_split (f : Vec F S4096x256 .bf16) :
    x16Pts c Finset.univ f = iprop(x16Pts c (rowSet (add c 0)) f ∗ bigSepL upTo15 fun e => x16Pts c (rowSet (add c (far e))) f) := by
  unfold x16Pts
  exact (in_blocks (x16M.view.loc (c : Thread nD τ)) f (fun t => rowSet (add c t)) (fun i : S4096x256.Idx => (i 0).val / 256)
    (fun i => lt_div (i 0).isLt) (addEquiv c) fun t i => Finset.mem_filter_univ i).trans (upTo16_split _)
/-- the assembled rows, by the devices asked for them; -/
theorem xr_split (f : Vec F S256x4096 .bf16) :
    xrPts c Finset.univ f = iprop(xrPts c (colSet (add c 0)) f ∗ bigSepL upTo15 fun e => xrPts c (colSet (add c (far e))) f) := by
  unfold xrPts
  exact (in_blocks (xrM.view.loc (c : Thread nD τ)) f (fun t => colSet (add c t)) (fun i : S256x4096.Idx => (i 1).val / 256)
    (fun i => lt_div (i 1).isLt) (addEquiv c) fun t i => Finset.mem_filter_univ i).trans (upTo16_split _)
/-- the assembled rows, as they are used; -/
theorem xr_join (f : Vec F S256x4096 .bf16) :
    xrPts c Finset.univ f = iprop(xrPts c (colSet (sub c 0)) f ∗ bigSepL upTo15 fun e => xrPts c (colSet (sub c (far e))) f) := by
  unfold xrPts
  exact (in_blocks (xrM.view.loc (c : Thread nD τ)) f (fun t => colSet (sub c t)) (fun i : S256x4096.Idx => (i 1).val / 256)
    (fun i => lt_div (i 1).isLt) (subEquiv c) fun t i => Finset.mem_filter_univ i).trans (upTo16_split _)
/-- the weights, in the order they are fetched; -/
theorem w_split (f : Vec F S4096x2048 .f32) :
    wPts c Finset.univ f = bigSepL upTo16 fun t => wPts c (wRowSet (sub c t)) f := by
  unfold wPts
  exact in_blocks (wM.view.loc (c : Thread nD τ)) f (fun t => wRowSet (sub c t)) (fun i : S4096x2048.Idx => (i 0).val / 256)
    (fun i => lt_div (i 0).isLt) (subEquiv c) fun t i => Finset.mem_filter_univ i
/-- and the slots they are fetched to. -/
theorem wb_split (f : Vec F S16x256x2048 .f32) :
    wbPts c Finset.univ f = bigSepL upTo16 fun t => wbPts c (slotSet t) f := by
  unfold wbPts
  exact in_blocks (wbM.view.loc (c : Thread nD τ)) f slotSet (fun i : S16x256x2048.Idx => (i 0).val)
    (fun i => (i 0).isLt) (Equiv.refl _) fun t i => Finset.mem_filter_univ i

/-! ## The loops -/

theorem loop_wStart :
    iprop(recs m K ∗ (∃ f, wbPts (F := F) c Finset.univ f) ∗ wPts c Finset.univ (wIn m c) ∗ bigSepL upTo16 fun t => dutyTok ER (wCell c t) 0 (0 : Fin 15))
      ⊢ run (F := F) c (each (wStart c) upTo16) fun _ => bigSepL upTo16 fun t => cred (tallyAt (wCell c t) () Nw) := by
  simp only [wb_split, w_split]
  iintro ⟨#HR, ⟨%f, Hb⟩, Hw, Ht⟩
  iapply (wp_mono frame _ Set.univ (p := each (wStart (F := F) c) upTo16)
    (Q := fun _ => iprop((bigSepL upTo16 fun t => cred (tallyAt (wCell c t) () Nw)) ∗ emp)) fun _ => by iintro ⟨H, -⟩; iexact H)
  iapply (run_each c (wStart c) (recs m K) _ _ (fun _ => iprop(emp)) (fun t _ => run_wStart m K c t f) upTo16)
  isplitr; · iexact HR
  isplitl [Hb Hw Ht]
  · simp only [upTo16_sep]
    isplitl [Hb]; · iexact Hb
    isplitl [Hw] <;> iassumption
  iempintro

theorem loop_tell :
    iprop(recs m K ∗ ((bigSepL upTo15 fun e => dutyTok ER (barCell (add c (far e))) 0 e)
        ∗ bigSepL upTo15 fun e => iprop(∃ f, xrPts (F := F) c (colSet (add c (far e))) f)) ∗ owing c (O₀ c))
      ⊢ run (F := F) c (each (tell c) upTo15) fun _ => owing c (oweX c upTo15) := by
  iintro ⟨#HR, ⟨Ht, Hx⟩, HO⟩
  iapply (wp_mono frame _ Set.univ (p := each (tell (F := F) c) upTo15)
    (Q := fun _ => iprop((bigSepL upTo15 fun _ => iprop(emp)) ∗ owing c (oweB c []))) fun _ => by
      iintro ⟨-, H⟩; iexact H)
  iapply (run_each c (tell c) (recs m K) _ _ (fun l => owing c (oweB c l)) (fun e l => run_tell m K c e l) upTo15)
  isplitr; · iexact HR
  isplitl [Ht Hx]
  · simp only [upTo15_sep]
    isplitl [Ht] <;> iassumption
  iexact HO

theorem loop_send :
    iprop(recs m K ∗ ((bigSepL upTo15 fun e => x16Pts c (rowSet (add c (far e))) (x16F m c))
        ∗ (bigSep Finset.univ fun e => barPay (F := F) c e)
        ∗ (bigSepL upTo15 fun e => dutyTok ER (sendCell c (far e)) 0 (0 : Fin 15))
        ∗ bigSepL upTo15 fun e => dutyTok ER (recvCell (add c (far e)) (far e)) 0 (0 : Fin 15)) ∗ owing c (oweX c upTo15))
      ⊢ run (F := F) c (each (send c) upTo15) fun _ =>
          iprop((bigSepL upTo15 fun e => cred (tallyAt (sendCell c (far e)) () Nx)) ∗ owing c 0) := by
  rw [upTo15_rev]
  unfold barPay
  simp only [sub_far_rev]
  iintro ⟨#HR, ⟨Hx, Hp, Ht, Ht'⟩, HO⟩
  iapply (run_each c (send c) (recs m K) _ _ (fun l => owing c (oweX c l)) (fun e l => run_send m K c e l) upTo15)
  isplitr; · iexact HR
  isplitl [Hx Hp Ht Ht']
  · simp only [upTo15_sep]
    isplitl [Hx]; · iexact Hx
    isplitl [Hp]; · iexact Hp
    isplitl [Ht] <;> iassumption
  iexact HO

theorem loop_next :
    iprop(recs m K ∗ ((bigSepL upTo15 fun e => cred (tallyAt (wCell c (far e)) () Nw))
        ∗ (bigSepL upTo15 fun e => atPos ER (wCell c (far e)) 0 (∅ : Finset (Fin 15)) 0)
        ∗ (bigSepL upTo15 fun e => cred (tallyAt (recvCell c (far e)) () Nx))
        ∗ bigSepL upTo15 fun e => atPos ER (recvCell c (far e)) 0 (∅ : Finset (Fin 15)) 0) ∗ owing c 0 ∗ accPts c (accFirst m c))
      ⊢ run (F := F) c (each (next c) upTo15) fun _ =>
          iprop(((bigSepL upTo15 fun e => atPos ER (wCell c (far e)) 1 (∅ : Finset (Fin 15)) 0)
            ∗ (bigSepL upTo15 fun e => wPay m c (far e))
            ∗ (bigSepL upTo15 fun e => atPos ER (recvCell c (far e)) 1 (∅ : Finset (Fin 15)) 0)
            ∗ bigSepL upTo15 fun e => recvPay m c (far e)) ∗ owing c 0 ∗ accPts c (accAll m c)) := by
  iintro ⟨#HR, ⟨Hc, Hat, Hc', Hat'⟩, HO, HA⟩
  iapply (wp_mono frame _ Set.univ (p := each (next (F := F) c) upTo15)
    (Q := fun _ => iprop((bigSepL upTo15 fun e => nextPost m c e) ∗ accOf m c [])) fun _ => by
      unfold nextPost accOf
      simp only [upTo15_sep]
      iintro ⟨⟨⟨H1, H2⟩, H3, H4⟩, HO, ⟨%A, %hA, HA⟩⟩
      obtain rfl : A = accAll m c := hA
      isplitl [H1 H2 H3 H4]
      · isplitl [H1]; · iexact H1
        isplitl [H2]; · iexact H2
        isplitl [H3] <;> iassumption
      isplitl [HO] <;> iassumption)
  iapply (run_each c (next c) (recs m K) _ _ (accOf m c) (fun e l => run_next m c K e l) upTo15)
  isplitr; · iexact HR
  isplitl [Hc Hat Hc' Hat']
  · unfold nextPre
    simp only [upTo15_sep]
    isplitl [Hc Hat]
    · isplitl [Hc] <;> iassumption
    isplitl [Hc'] <;> iassumption
  unfold accOf
  isplitl [HO]; · iexact HO
  iexists (accFirst m c)
  isplitr; · ipureintro; rfl
  iexact HA

theorem loop_sendWait :
    iprop(recs m K ∗ ((bigSepL upTo15 fun e => cred (tallyAt (sendCell c (far e)) () Nx))
        ∗ bigSepL upTo15 fun e => atPos ER (sendCell c (far e)) 0 (∅ : Finset (Fin 15)) 0) ∗ owing c 0)
      ⊢ run (F := F) c (each (sendWait c) upTo15) fun _ =>
          iprop(((bigSepL upTo15 fun e => atPos ER (sendCell c (far e)) 1 (∅ : Finset (Fin 15)) 0)
            ∗ bigSepL upTo15 fun e => sendPay m c (far e)) ∗ owing c 0) := by
  iintro ⟨#HR, ⟨Hc, Hat⟩, HO⟩
  rw [← upTo15_sep]
  iapply (run_each c (sendWait c) (recs m K) _ _ (fun _ => owing c 0) (fun e l => run_sendWait m c K e l) upTo15)
  isplitr; · iexact HR
  isplitl [Hc Hat]
  · simp only [upTo15_sep]
    isplitl [Hc] <;> iassumption
  iexact HO

/-! ## The body -/

/-- A step with its own resources, and then the rest of the program. -/
theorem run_then {α β : Type} {p : KProg F α} {P A : sProp 𝕄} {Q : α → sProp 𝕄} (h : iprop(P ∗ A) ⊢ run c p Q) (k : α → KProg F β)
    (Q' : β → sProp 𝕄) : iprop(P ∗ A ∗ ∀ a, Q a -∗ run c (k a) Q') ⊢ run c (p >>= k) Q' := by
  unfold run; rw [wp_bind]
  iintro ⟨HP, HA, HB⟩
  iapply (wp_mono frame _ Set.univ (p := p) (Q := fun a => iprop(Q a ∗ ∀ a, Q a -∗ run c (k a) Q')) fun a => by
    iintro ⟨HQ, HB⟩
    iapply HB; iexact HQ)
  iapply (wp_frame_r frame _ Set.univ)
  isplitl [HP HA]
  · iapply h; isplitl [HP] <;> iassumption
  iexact HB

/-- How many rounds of a semaphore the body goes through. -/
def rnd : Key → ℕ
  | none => 1
  | some (2, _) => 1
  | some (_, t) => if t = 0 then 0 else 1

/-- Past those rounds nothing is due, -/
theorem duties_done (k : Key) (r : ℕ) (hr : rnd k ≤ r) : (sched (F := F) m).duties (cell (c, k)) r = ∅ := by
  rcases Nat.eq_zero_or_pos r with rfl | h
  · rw [duties_cell]
    revert k; decide
  · exact duties_later m _ r h

/-- so the semaphore can be closed, and its counter is at zero. -/
theorem close_one (k : Key) :
    iprop(recs m K ∗ atPos ER (cell (c, k)) (rnd k) (∅ : Finset (Fin 15)) 0) ⊢ iprop(|={Set.univ}=> semVal (cell (c, k)) 0 : sProp 𝕄) := by
  iintro ⟨#HR, Hat⟩
  iapply (Rounds.cell_close ER (sched m) (Set.mem_univ (K (c, k))) (fun h => h) (R := rnd k) (duties_done m c k))
  isplitr; · iapply (recs_inv m K c k); iexact HR
  iexact Hat
theorem close_all :
    iprop(recs m K ∗ bigSep Finset.univ fun k => atPos ER (cell (c, k)) (rnd k) (∅ : Finset (Fin 15)) 0)
      ⊢ iprop(|={Set.univ}=> bigSep Finset.univ fun k => semVal (cell (c, k)) 0 : sProp 𝕄) := by
  refine BIBase.Entails.trans ?_ ((bigSep_mono fun k _ => close_one m K c k).trans
    (bigSep_fupd Finset.univ fun k => (semVal (cell (c, k)) 0 : sProp 𝕄)))
  rw [bigSep_sep']
  iintro ⟨#HR, Hat⟩
  isplitr; · iapply (bigSep_of_persistent Finset.univ); iexact HR
  iexact Hat

/-- The positions at the end, one by one. -/
theorem pos_join :
    (iprop(atPos ER (cell (c, none)) 1 (∅ : Finset (Fin 15)) 0
      ∗ (atPos ER (sendCell c 0) 0 (∅ : Finset (Fin 15)) 0 ∗ bigSepL upTo15 fun e => atPos ER (sendCell c (far e)) 1 (∅ : Finset (Fin 15)) 0)
      ∗ (atPos ER (recvCell c 0) 0 (∅ : Finset (Fin 15)) 0 ∗ bigSepL upTo15 fun e => atPos ER (recvCell c (far e)) 1 (∅ : Finset (Fin 15)) 0)
      ∗ atPos ER (wCell c 0) 1 (∅ : Finset (Fin 15)) 0 ∗ bigSepL upTo15 fun e => atPos ER (wCell c (far e)) 1 (∅ : Finset (Fin 15)) 0) : sProp 𝕄)
      = bigSep Finset.univ fun k => atPos ER (cell (c, k)) (rnd k) (∅ : Finset (Fin 15)) 0 := by
  rw [keys_split]
  simp only [upTo16_split]
  rfl

/-- What a device has when it enters the body: its buffers, its semaphores, its signals' tokens and the credits of its waits. -/
def entry : sProp 𝕄 :=
  iprop(owing c (O₀ c) ∗ levAts L lv ∗ wPts c Finset.univ (wIn m c)
    ∗ ((∃ f, x16Pts (F := F) c Finset.univ f) ∗ (∃ f, xrPts (F := F) c Finset.univ f) ∗ (∃ f, wbPts (F := F) c Finset.univ f) ∗ ∃ f, accPts (F := F) c f)
    ∗ (cred (tallyAt (barCell c) () 15) ∗ bigSepL upTo15 fun e => cred (tallyAt (recvCell c (far e)) () Nx))
    ∗ (bigSep Finset.univ fun k => atPos ER (cell (c, k)) 0 (∅ : Finset (Fin 15)) 0)
    ∗ (bigSepL upTo16 fun t => dutyTok ER (wCell c t) 0 (0 : Fin 15))
    ∗ (bigSepL upTo15 fun e => dutyTok ER (barCell (add c (far e))) 0 e)
    ∗ (bigSepL upTo15 fun e => dutyTok ER (sendCell c (far e)) 0 (0 : Fin 15))
    ∗ bigSepL upTo15 fun e => dutyTok ER (recvCell (add c (far e)) (far e)) 0 (0 : Fin 15))

/-- What it has when it leaves: the result computed, and every counter at zero. -/
def leave : sProp 𝕄 :=
  iprop(owing c 0 ∗ wPts c Finset.univ (wIn m c)
    ∗ (x16Pts c Finset.univ (x16F m c) ∗ xrPts c Finset.univ (xrF m c) ∗ wbPts c Finset.univ (wbF m c) ∗ accPts c (accAll m c))
    ∗ bigSep Finset.univ fun k => semVal (cell (c, k)) 0)

theorem xr_any : iprop(∃ f, xrPts (F := F) c Finset.univ f)
    ⊢ iprop((∃ f, xrPts (F := F) c (colSet c) f) ∗ bigSepL upTo15 fun e => iprop(∃ f, xrPts (F := F) c (colSet (add c (far e))) f)) := by
  iintro ⟨%f, H⟩
  ihave H' := (Entails.of_eq (xr_split c f)) $$ H
  icases H' with ⟨H0, H⟩
  isplitl [H0]
  · iexists f; rw [add_zero']; iexact H0
  iapply (bigSepL_mono (l := upTo15) (Φ := fun e => xrPts c (colSet (add c (far e))) f) fun e _ => by iintro H; iexists f; iexact H)
  iexact H

theorem x16_own (f : Vec F S4096x256 .bf16) :
    x16Pts c Finset.univ f ⊢ iprop(x16Pts c (rowSet (add c 0)) f ∗ bigSepL upTo15 fun e => x16Pts c (rowSet (add c (far e))) f) :=
  Entails.of_eq (x16_split c f)

theorem own_cols : xrPts c (colSet c) (xrF m c) ⊢ recvPay m c 0 := by
  unfold recvPay; rw [sub_zero]

/-- The body, once the device knows its place. -/
def loopsAt : KProg F PUnit := do
  each (wStart c) upTo16
  castOwn c
  each (tell c) upTo15
  semWaitWord barS 15#32
  each (send c) upTo15
  first c
  each (next c) upTo15
  finish
  each (sendWait c) upTo15

theorem run_loops_eq (Q : PUnit → sProp 𝕄) : run (F := F) c loops Q = run c (loopsAt c) Q :=
  wp_deviceId 𝒱₀ (c : Thread nD τ) none Set.univ

/-- The buffers at the end, whole again. -/
theorem buffers_join :
    iprop((x16Pts c (rowSet (add c 0)) (x16F m c) ∗ bigSepL upTo15 fun e => sendPay m c (far e))
      ∗ (recvPay m c 0 ∗ bigSepL upTo15 fun e => recvPay m c (far e)) ∗ wPay m c 0 ∗ bigSepL upTo15 fun e => wPay m c (far e))
      ⊢ iprop(x16Pts c Finset.univ (x16F m c) ∗ xrPts c Finset.univ (xrF m c) ∗ wbPts c Finset.univ (wbF m c) ∗ wPts c Finset.univ (wIn m c)) := by
  rw [x16_split, xr_join, wb_split, w_split]
  unfold sendPay recvPay wPay
  simp only [upTo16_split, upTo15_sep]
  iintro ⟨⟨Hx0, Hx⟩, ⟨Hr0, Hr⟩, ⟨Hb0, Hw0⟩, Hb, Hw⟩
  isplitl [Hx0 Hx]
  · isplitl [Hx0] <;> iassumption
  isplitl [Hr0 Hr]
  · isplitl [Hr0] <;> iassumption
  isplitl [Hb0 Hb]
  · isplitl [Hb0] <;> iassumption
  isplitl [Hw0] <;> iassumption

theorem run_loops :
    iprop(recs m K ∗ entry m c ∗ xPts c Finset.univ (xstg m c) ∗ ∃ f, oPts (F := F) c f)
      ⊢ run (F := F) c loops fun _ => iprop(leave m c ∗ xPts c Finset.univ (xstg m c) ∗ oPts c (outF m c)) := by
  unfold entry
  rw [keys_split]
  simp only [upTo16_split fun t => atPos ER (cell (c, some (_, t))) 0 (∅ : Finset (Fin 15)) 0]
  rw [run_loops_eq]
  unfold loopsAt
  iintro ⟨#HR, ⟨HO, HL, Hw, ⟨Hx16, Hxr, Hwb, Hacc⟩, ⟨HcB, HcR⟩, ⟨HaB, ⟨HaS0, HaS⟩, ⟨HaR0, HaR⟩, ⟨HaW0, HaW⟩⟩, HtW, HtB, HtS, HtR⟩, Hx, Ho⟩
  iapply (run_then c (loop_wStart m K c) (P := recs m K))
  isplitr; · iexact HR
  isplitl [Hwb Hw HtW]
  · isplitl [Hwb]; · iexact Hwb
    isplitl [Hw] <;> iassumption
  iintro %_ HcW
  ihave HcW' := (Entails.of_eq (upTo16_split _)) $$ HcW
  icases HcW' with ⟨HcW0, HcW⟩
  ihave Hxr' := (xr_any c) $$ Hxr
  icases Hxr' with ⟨Hxr, HxP⟩
  iapply (run_then c (run_castOwn m K c) (P := recs m K))
  isplitr; · iexact HR
  isplitl [Hx Hx16 Hxr]
  · isplitl [Hx]; · iexact Hx
    isplitl [Hx16] <;> iassumption
  iintro %_ ⟨Hx, Hx16, Hxr⟩
  ihave Hx16' := (x16_own c _) $$ Hx16
  icases Hx16' with ⟨Hx0, Hx16⟩
  iapply (run_then c (loop_tell m K c) (P := recs m K))
  isplitr; · iexact HR
  isplitl [HtB HxP HO]
  · isplitl [HtB HxP]
    · isplitl [HtB] <;> iassumption
    iexact HO
  iintro %_ HO
  iapply (run_then c (run_barrier m K c) (P := recs m K))
  isplitr; · iexact HR
  isplitl [HcB HO HL HaB]
  · isplitl [HcB]; · iexact HcB
    isplitl [HO]; · iexact HO
    isplitl [HL] <;> iassumption
  iintro %_ ⟨HO, HaB, HpB⟩
  iapply (run_then c (loop_send m K c) (P := recs m K))
  isplitr; · iexact HR
  isplitl [Hx16 HpB HtS HtR HO]
  · isplitr [HO]
    · isplitl [Hx16]; · iexact Hx16
      isplitl [HpB]; · iexact HpB
      isplitl [HtS] <;> iassumption
    iexact HO
  iintro %_ ⟨HcS, HO⟩
  iapply (run_then c (run_first m c K) (P := recs m K))
  isplitr; · iexact HR
  isplitl [HcW0 HO HaW0 Hxr Hacc]
  · isplitl [HcW0 HO HaW0]
    · isplitl [HcW0]; · iexact HcW0
      isplitl [HO] <;> iassumption
    isplitl [Hxr]
    · iapply (own_cols m c); iexact Hxr
    iexact Hacc
  unfold firstPost
  iintro %_ ⟨HO, HaW0, HpW0, HpR0, Hacc⟩
  iapply (run_then c (loop_next m K c) (P := recs m K))
  isplitr; · iexact HR
  isplitl [HcW HaW HcR HaR HO Hacc]
  · isplitl [HcW HaW HcR HaR]
    · isplitl [HcW]; · iexact HcW
      isplitl [HaW]; · iexact HaW
      isplitl [HcR] <;> iassumption
    isplitl [HO] <;> iassumption
  iintro %_ ⟨⟨HaW, HpW, HaR, HpR⟩, HO, Hacc⟩
  iapply (run_then c (run_finish m c K) (P := recs m K))
  isplitr; · iexact HR
  isplitl [Hacc Ho]
  · isplitl [Hacc] <;> iassumption
  iintro %_ ⟨Hacc, Ho⟩
  iapply (wp_fupd frame _ Set.univ)
  iapply (wp_wand_r frame _ Set.univ (p := each (sendWait (F := F) c) upTo15))
  isplitl [HcS HaS HO]
  · iapply (loop_sendWait m K c)
    isplitr; · iexact HR
    isplitl [HcS HaS]
    · isplitl [HcS] <;> iassumption
    iexact HO
  iintro %_ ⟨⟨HaS, HpS⟩, HO⟩
  ihave Hz := (close_all m K c) $$ [HaB HaS0 HaS HaR0 HaR HaW0 HaW]
  · isplitr; · iexact HR
    iapply (Entails.of_eq (pos_join c))
    isplitl [HaB]; · iexact HaB
    isplitl [HaS0 HaS]
    · isplitl [HaS0] <;> iassumption
    isplitl [HaR0 HaR]
    · isplitl [HaR0] <;> iassumption
    isplitl [HaW0] <;> iassumption
  imod Hz
  imodintro
  unfold leave
  isplitr [Hx Ho]
  · isplitl [HO]; · iexact HO
    ihave HB := (buffers_join m c) $$ [Hx0 HpS HpR0 HpR HpW0 HpW]
    · isplitl [Hx0 HpS]
      · isplitl [Hx0] <;> iassumption
      isplitl [HpR0 HpR]
      · isplitl [HpR0] <;> iassumption
      isplitl [HpW0] <;> iassumption
    icases HB with ⟨Hx16, Hxr, Hwb, Hw⟩
    isplitl [Hw]; · iexact Hw
    isplitr [Hz]
    · isplitl [Hx16]; · iexact Hx16
      isplitl [Hxr]; · iexact Hxr
      isplitl [Hwb] <;> iassumption
    iexact Hz
  isplitl [Hx] <;> iassumption

end Cert.A2A

end
-- ==== Proof.Oblig.lean ====
/-
The kernel's one point: from what the launch hands a device to what it hands back.
-/
module

public import proofs.«01_k».proof.Proof.Whole
public import proofs.«01_k».proof.Proof.Gen.KernelIdeal.Launch
public import proofs.«01_k».proof.Proof.Gen.KernelIdeal.Points
public import Idealize.ShloMosaic.Lib.Pipeline.Launch
public import Idealize.ShloMosaic.Lib.Pipeline.Kit

@[expose] public section

set_option maxRecDepth 65536

noncomputable section

namespace Cert.A2A

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation)

variable {F : FTy → Type} [FloatOps F]

local notation "𝕄" => MT nD τ sig Unit (Elt F) ℕ UU ℕ

variable (m : (ℓ : Loc nD τ sig) → Buf (Elt F) ℓ)

/-! ## The proof data -/

/-- The tokens of the signals a device gives. -/
def payToks (c : Dev nD) : sProp 𝕄 :=
  iprop((bigSepL upTo16 fun t => dutyTok ER (wCell c t) 0 (0 : Fin 15))
    ∗ (bigSepL upTo15 fun e => dutyTok ER (barCell (add c (far e))) 0 e)
    ∗ (bigSepL upTo15 fun e => dutyTok ER (sendCell c (far e)) 0 (0 : Fin 15))
    ∗ bigSepL upTo15 fun e => dutyTok ER (recvCell (add c (far e)) (far e)) 0 (0 : Fin 15))

/-- The protocol's state a device starts from. -/
def ghost (K : Dev nD × Key → ℕ) (c : Dev nD) : sProp 𝕄 :=
  iprop(recs m K ∗ (bigSep Finset.univ fun k => atPos ER (cell (c, k)) 0 (∅ : Finset (Fin 15)) 0) ∗ payToks c)

/-- The credits of its waits for the others. -/
def credits (c : Dev nD) : sProp 𝕄 :=
  iprop(cred (tallyAt (barCell c) () 15) ∗ bigSepL upTo15 fun e => cred (tallyAt (recvCell c (far e)) () Nx))

/-- What a device holds before the kernel, -/
def start (c : Dev nD) : sProp 𝕄 :=
  iprop((∃ K, ghost m K c) ∗ credits c ∗ levAts L lv ∗ wPts c Finset.univ (wIn m c))

/-- at the kernel's start, with the buffers the kernel allocates, -/
def Φ₀ (c : Dev nD) : sProp 𝕄 :=
  iprop(start m c ∗ (∃ f, x16Pts (F := F) c Finset.univ f) ∗ (∃ f, xrPts (F := F) c Finset.univ f) ∗ (∃ f, wbPts (F := F) c Finset.univ f)
    ∗ ∃ f, accPts (F := F) c f)

/-- and at its end. -/
def Φ₁ (c : Dev nD) : sProp 𝕄 :=
  iprop(wPts c Finset.univ (wIn m c)
    ∗ (x16Pts c Finset.univ (x16F m c) ∗ xrPts c Finset.univ (xrF m c) ∗ wbPts c Finset.univ (wbF m c) ∗ accPts c (accAll m c))
    ∗ bigSep Finset.univ fun k => semVal (cell (c, k)) 0)

def dats (_ : Fin 1) (c : Dev nD) : Dat τ (Elt F) Unit ℕ UU ℕ cfg0 c where
  A w := m ((cfg0.win w).arr.view.loc (c : Thread nD τ))
  after w _ := match w with
    | ⟨0, _⟩ => xstg m c
    | ⟨1, _⟩ => outF m c
  Φ t := match t with
    | ⟨0, _⟩ => Φ₀ m c
    | ⟨_ + 1, _⟩ => Φ₁ m c
  q _ := fullShare
  owed t := match t with
    | ⟨0, _⟩ => O₀ c
    | ⟨_ + 1, _⟩ => 0

/-! ## The body's obligation -/

theorem owns_eq (c : Dev nD) (b : Ref sig .tc) (X : b.ty.Contents (Elt F)) :
    (owns (Ix := Unit) (Name := ℕ) (U := UU) (Lvl := ℕ) (c : Thread nD τ) (Memref.whole b) fullShare X : sProp 𝕄)
      = iprop(∃ f : Buf (Elt F) (((c : Dev nD) : Thread nD τ).loc b), ⌜f = X⌝ ∗ (((c : Thread nD τ).loc b) ↦{fullShare} f)) := by
  unfold owns; simp only [Memref.view_whole, View.read_whole, View.set_whole]

/-- A staging buffer with its contents. -/
def held (c : Dev nD) (b : Ref sig .tc) (X : b.ty.Contents (Elt F)) : sProp 𝕄 :=
  iprop(∃ f : Buf (Elt F) (((c : Dev nD) : Thread nD τ).loc b), ⌜f = X⌝ ∗ (((c : Thread nD τ).loc b) ↦{fullShare} f))

theorem fetch_0 (t : Fin cfg0.N) : (cfg0.win (0 : Fin 2)).fetch t = true := fetch0_0 t

def before (c : Dev nD) : sProp 𝕄 :=
  iprop(Φ₀ m c ∗ (dats m 0 c).owesAt () t0_0.castSucc
    ∗ (∃ d, held c cc0_stg0_0 ((dats m 0 c).before (0 : Fin 2) t0_0 d))
    ∗ (∃ d, held c cc0_stg1_0 ((dats m 0 c).before (1 : Fin 2) t0_0 d)))
def after (c : Dev nD) : sProp 𝕄 :=
  iprop(Φ₁ m c ∗ (dats m 0 c).owesAt () t0_0.succ ∗ held c cc0_stg0_0 (xstg m c) ∗ held c cc0_stg1_0 (outF m c))

theorem before_x (c : Dev nD) (d) : (dats m 0 c).before (0 : Fin 2) t0_0 d = xstg m c := by
  unfold Dat.before; rw [if_pos (fetch_0 t0_0)]; rfl

theorem sound (c : Dev nD) : before m c ⊢ run (F := F) c loops fun _ => after m c := by
  unfold before Φ₀ start
  simp only [before_x]
  unfold held
  iintro ⟨⟨⟨⟨%K, Hg⟩, Hcr, HL, Hw⟩, Hscr⟩, HO, ⟨%_, %f, %hf, Hx⟩, ⟨%_, %g, -, Ho⟩⟩
  subst hf
  unfold ghost
  icases Hg with ⟨#HR, Hat, Htok⟩
  iapply (wp_mono frame _ Set.univ (p := loops (F := F))
    (Q := fun _ => iprop(leave m c ∗ xPts c Finset.univ (xstg m c) ∗ oPts c (outF m c))) fun _ => by
      unfold leave after Φ₁ Dat.owesAt Pipeline.owesWithin owing held xPts oPts
      rw [show (dats m 0 c).owed t0_0.succ = 0 from rfl]
      iintro ⟨⟨⟨%W, HO⟩, Hw, Hscr, Hz⟩, Hx, Ho⟩
      isplitl [Hw Hscr Hz]
      · isplitl [Hw]; · iexact Hw
        isplitl [Hscr] <;> iassumption
      isplitl [HO]
      · iexists W
        isplitr; · ipureintro; exact fun _ _ => Or.inl trivial
        iexact HO
      isplitl [Hx]
      · iexists _; isplitr; · (ipureintro; rfl)
        iexact Hx
      iexists _; isplitr; · (ipureintro; rfl)
      iexact Ho)
  iapply (run_loops m K c)
  unfold entry payToks credits
  isplitr; · iexact HR
  isplitr [Hx Ho]
  · isplitl [HO]
    · unfold Dat.owesAt Pipeline.owesWithin owing
      icases HO with ⟨%W, -, HO⟩
      iexists W; iexact HO
    isplitl [HL]; · iexact HL
    isplitl [Hw]; · iexact Hw
    isplitl [Hscr]; · iexact Hscr
    isplitl [Hcr]; · iexact Hcr
    isplitl [Hat] <;> iassumption
  unfold xPts oPts
  isplitl [Hx]; · iexact Hx
  iexists g; iexact Ho

theorem body_obligation (c : Dev nD) : BodyObligation (dats (F := F) m 0 c) (defs₀ (F := F)) 𝒱₀ () Set.univ := fun t => by
  rw [fin_N0 t]
  rw [bigSep_W0, bigSep_W0]
  have h := sound m c
  unfold run at h
  rw [← body_eq t0_0] at h
  simp only [owns_eq]
  exact h

end Cert.A2A

end
-- ==== Proof.Launch.lean ====
/-
The launch: the protocol's state dealt to the devices, and the run of the whole program.
-/
module

public import proofs.«01_k».proof.Proof.Oblig
public import Idealize.ShloMosaic.Lib.Pipeline.CollectiveSegs

@[expose] public section

set_option maxRecDepth 65536

noncomputable section

namespace Cert.A2A

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation)

variable {F : FTy → Type} [FloatOps F]

local notation "𝕄" => MT nD τ sig Unit (Elt F) ℕ UU ℕ

variable (m : (ℓ : Loc nD τ sig) → Buf (Elt F) ℓ) (ρ : Dev nD → PrngReg)

/-! ## The tokens -/

/-- The signals a device is given: for its weights, on its barrier, for its sends and from its receives. -/
abbrev Given : Type := Fin 16 ⊕ (Fin 15 ⊕ (Fin 15 ⊕ Fin 15))

def givenAt : Given → Key × Fin 15
  | .inl t => (some (2, t), 0)
  | .inr (.inl e) => (none, e)
  | .inr (.inr (.inl e)) => (some (0, far e), 0)
  | .inr (.inr (.inr e)) => (some (1, far e), 0)

theorem givenAt_injective : Function.Injective givenAt := by decide +kernel

def tokOf (cj : Dev nD × Given) : GSem nD τ sig × ℕ × Fin 15 := (cell (cj.1, (givenAt cj.2).1), 0, (givenAt cj.2).2)

theorem tokOf_injective : Function.Injective tokOf := by
  rintro ⟨c, j⟩ ⟨c', j'⟩ h
  have h1 := cell_injective (congrArg Prod.fst h)
  have h2 : (givenAt j).2 = (givenAt j').2 := congrArg (fun x : GSem nD τ sig × ℕ × Fin 15 => x.2.2) h
  obtain ⟨rfl, h3⟩ := Prod.mk.inj h1
  exact congrArg (Prod.mk c) (givenAt_injective (Prod.ext h3 h2))

def allCells : Finset (GSem nD τ sig) := Finset.univ.map ⟨cell, cell_injective⟩
def allToks : Finset (GSem nD τ sig × ℕ × Fin 15) := Finset.univ.map ⟨tokOf, tokOf_injective⟩

def u₀ : UU :=
  (initOf (Pipeline.cells cfgs cellOf_inj) (Pipeline.launchToks cfgs cellOf_inj), initOf allCells allToks)

/-- The tokens of a device's own semaphores. -/
def ownToks (c : Dev nD) : sProp 𝕄 :=
  iprop((bigSepL upTo16 fun t => dutyTok ER (wCell c t) 0 (0 : Fin 15))
    ∗ (bigSepL upTo15 fun e => dutyTok ER (barCell c) 0 e)
    ∗ (bigSepL upTo15 fun e => dutyTok ER (sendCell c (far e)) 0 (0 : Fin 15))
    ∗ bigSepL upTo15 fun e => dutyTok ER (recvCell c (far e)) 0 (0 : Fin 15))

theorem ownToks_eq (c : Dev nD) :
    (bigSep Finset.univ fun j : Given => dutyTok ER (tokOf (c, j)).1 (tokOf (c, j)).2.1 (tokOf (c, j)).2.2 : sProp 𝕄) = ownToks c := by
  unfold ownToks
  rw [bigSep_univ_sum, bigSep_univ_sum, bigSep_univ_sum, upTo16_all, upTo15_all, upTo15_all, upTo15_all]
  rfl

/-- What the launch deals a device. -/
def G (c : Dev nD) : sProp 𝕄 :=
  iprop((bigSep Finset.univ fun k : Key => roundState ER (sched m) (cell (c, k)) 0)
    ∗ ((bigSep Finset.univ fun k : Key => atPos ER (cell (c, k)) 0 (∅ : Finset (Fin 15)) 0)
      ∗ bigSep Finset.univ fun k : Key => reached ER (cell (c, k)) 0) ∗ ownToks c)

theorem fund_all : BI.own (ER (initOf allCells allToks)) ⊢ (|==> bigSep Finset.univ (G m) : sProp 𝕄) := by
  have hX (Φ : GSem nD τ sig → sProp 𝕄) :
      bigSep allCells Φ = bigSep Finset.univ fun c : Dev nD => bigSep Finset.univ fun k : Key => Φ (cell (c, k)) := by
    unfold allCells; rw [bigSep_map, bigSep_univ_prod]; rfl
  have hT : bigSep allToks (fun x => (dutyTok ER x.1 x.2.1 x.2.2 : sProp 𝕄)) = bigSep Finset.univ fun c : Dev nD => ownToks c := by
    unfold allToks; rw [bigSep_map, bigSep_univ_prod]
    exact bigSep_congr fun c _ => ownToks_eq c
  iintro HX
  imod (Rounds.fund ER (sched m) allCells allToks) $$ HX with ⟨Hst, Hr, Hat, Htok⟩
  imodintro
  ihave Hst' := (Entails.of_eq (hX fun g => roundState ER (sched m) g 0)) $$ Hst
  ihave Hat' := (Entails.of_eq (hX fun g => atPos ER g 0 ∅ 0)) $$ Hat
  ihave Hr' := (Entails.of_eq (hX fun g => reached ER g 0)) $$ Hr
  ihave Htok' := (Entails.of_eq hT) $$ Htok
  unfold G; simp only [bigSep_sep']
  isplitl [Hst']; · iexact Hst'
  isplitl [Hat' Hr']
  · isplitl [Hat'] <;> iassumption
  iexact Htok'

/-! ## The semaphores -/

theorem ownSemFacts : Pipeline.OwnSemFacts cfg0.spec osem := by decide +kernel

abbrev ownSems (c : Dev nD) : sProp 𝕄 :=
  Pipeline.ownSems0 (Ix := Unit) (Name := ℕ) (U := UU) (Lvl := ℕ) (Val := Elt F) (τ := τ) osem c

theorem ownSems_eq (c : Dev nD) : ownSems (F := F) c
    = iprop((bigSepL upTo16 fun t => semVal (sendCell c t) 0) ∗ (bigSepL upTo16 fun t => semVal (recvCell c t) 0)
      ∗ bigSepL upTo16 fun t => semVal (wCell c t) 0) := by
  unfold ownSems
  rw [Pipeline.ownSems0_eq_of_list c osem (upTo16.map (fun t => ((0 : Fin 3), t)) ++ (upTo16.map (fun t => ((1 : Fin 3), t))
      ++ upTo16.map (fun t => ((2 : Fin 3), t)))) (by decide) (by decide),
    bigSepL_append, bigSepL_append, bigSepL_map, bigSepL_map, bigSepL_map]

theorem unscopedSems_eq (c : Dev nD) : (unscopedSems0 c : sProp 𝕄) = semVal (barCell c) 0 := by
  unfold unscopedSems0; rw [bigSep_eq_bigSepL_of_eq [SemLoc.reg barS] (by decide +kernel) (by decide)]; rfl

/-- All the counters of a device, as the launch has them and as the protocol does. -/
theorem sems_eq (c : Dev nD) :
    (bigSep Finset.univ fun k : Key => semVal (cell (c, k)) 0 : sProp 𝕄) = iprop(unscopedSems0 c ∗ ownSems (F := F) c) := by
  rw [keys_split, ownSems_eq, unscopedSems_eq]

/-! ## The protocol begins -/

theorem core_alloc (c : Dev nD) :
    iprop(ownSems (F := F) c ∗ unscopedSems0 c ∗ G m c)
      ⊢ |={Set.univ}=> iprop((bigSep Finset.univ fun k => iprop(∃ κ : ℕ, cellInv ER (sched m) κ (cell (c, k))))
          ∗ ((bigSep Finset.univ fun k : Key => atPos ER (cell (c, k)) 0 (∅ : Finset (Fin 15)) 0)
            ∗ bigSep Finset.univ fun k : Key => reached ER (cell (c, k)) 0) ∗ ownToks c) := by
  unfold G
  iintro ⟨Hos, Hus, Hst, Hat, Htok⟩
  ihave Hv := (Entails.of_eq (sems_eq (F := F) c).symm) $$ [Hos Hus]
  · isplitl [Hus] <;> iassumption
  imod (show iprop((bigSep Finset.univ fun k : Key => semVal (cell (c, k)) 0) ∗ bigSep Finset.univ fun k : Key => roundState ER (sched m) (cell (c, k)) 0)
      ⊢ (|={Set.univ}=> bigSep Finset.univ fun k => iprop(∃ κ : ℕ, cellInv ER (sched m) κ (cell (c, k))) : sProp 𝕄) from by
        rw [← bigSep_sep']
        exact (bigSep_mono fun k _ => (Rounds.body_intro ER (sched m) (cell (c, k))).trans inv_alloc).trans (bigSep_fupd _ _)) $$ [Hv Hst] with Hinv
  · isplitl [Hv] <;> iassumption
  imodintro
  isplitl [Hinv]; · iexact Hinv
  isplitl [Hat]; · iexact Hat
  iexact Htok

/-- A family over devices and steps, each step's member taken from the device that many places after. -/
theorem turned (Φ : Dev nD → Fin 15 → sProp 𝕄) :
    (bigSep Finset.univ fun c => bigSepL upTo15 fun e => Φ c e) = bigSep Finset.univ fun c => bigSepL upTo15 fun e => Φ (add c (far e)) e := by
  simp only [← upTo15_all]
  rw [bigSep_univ_comm, bigSep_univ_comm (fun c e => Φ (add c (far e)) e)]
  exact bigSep_congr fun e _ => bigSep_univ_equiv (turn (far e)) fun c => Φ c e

/-- Every device hands the others the tokens of the signals they give it. -/
theorem toks_around : (bigSep Finset.univ fun c : Dev nD => (ownToks c : sProp 𝕄)) = bigSep Finset.univ fun c : Dev nD => payToks c := by
  unfold ownToks payToks
  simp only [bigSep_sep']
  rw [turned fun c e => dutyTok ER (barCell c) 0 e, turned fun c e => dutyTok ER (recvCell c (far e)) 0 (0 : Fin 15)]

theorem with_all {R : sProp 𝕄} [BI.Persistent R] {Φ Ψ : Dev nD → sProp 𝕄}
    (h : ∀ c, iprop(R ∗ Φ c) ⊢ Ψ c) : iprop(R ∗ bigSep Finset.univ Φ) ⊢ bigSep Finset.univ Ψ :=
  (sep_mono_left (bigSep_of_persistent (R := R) Finset.univ)).trans (by rw [← bigSep_sep']; exact bigSep_mono fun c _ => h c)

theorem regroup :
    (bigSep Finset.univ fun c : Dev nD => iprop((bigSep Finset.univ fun k => iprop(∃ κ : ℕ, cellInv ER (sched m) κ (cell (c, k))))
          ∗ ((bigSep Finset.univ fun k : Key => atPos ER (cell (c, k)) 0 (∅ : Finset (Fin 15)) 0)
            ∗ bigSep Finset.univ fun k : Key => reached ER (cell (c, k)) 0) ∗ ownToks c) : sProp 𝕄)
      ⊢ bigSep Finset.univ fun c => iprop(∃ K, ghost m K c) := by
  rw [bigSep_sep', bigSep_sep', bigSep_sep', toks_around,
    ← bigSep_univ_prod (fun ck : Dev nD × Key => iprop(∃ κ : ℕ, cellInv ER (sched m) κ (cell ck))),
    ← bigSep_univ_prod (fun ck : Dev nD × Key => (reached ER (cell ck) 0 : sProp 𝕄))]
  iintro ⟨HI, ⟨Hat, #HR⟩, Htok⟩
  ihave HK := (BI.bigSep_exists_pi Finset.univ (fun (ck : Dev nD × Key) (κ : ℕ) => (cellInv ER (sched m) κ (cell ck) : sProp 𝕄))) $$ HI
  icases HK with ⟨%K, #HI⟩
  iapply (with_all (R := recs m K)
    (Φ := fun c => iprop((bigSep Finset.univ fun k : Key => atPos ER (cell (c, k)) 0 (∅ : Finset (Fin 15)) 0) ∗ payToks c)) fun c => by
      iintro ⟨HR, H⟩
      iexists K
      unfold ghost
      isplitl [HR]; · iexact HR
      iexact H)
  isplitr
  · unfold recs; isplitr; · iexact HI
    iexact HR
  rw [bigSep_sep']
  isplitl [Hat]; · iexact Hat
  iexact Htok

theorem glob : (bigSep Finset.univ fun c => iprop(ownSems (F := F) c ∗ unscopedSems0 c ∗ G m c) : sProp 𝕄)
    ⊢ |={Set.univ}=> bigSep Finset.univ fun c => iprop(∃ K, ghost m K c) :=
  ((bigSep_mono fun c _ => core_alloc m c).trans (bigSep_fupd _ _)).trans (BI.fupd_mono (regroup m))

/-! ## The credits -/

theorem tally_cell (c d : Dev nD) (k k' : Key) (n : ℕ) :
    (tallyAt (cell (d, k')) () n : CellTallies nD τ sig Unit) (cell (c, k)) () = if c = d ∧ k = k' then n else 0 := by
  rw [tallyAt_apply]
  refine if_congr ⟨fun h => ?_, fun h => ⟨by rw [h.1, h.2], rfl⟩⟩ rfl rfl
  exact Prod.mk.inj (cell_injective h.1)

theorem sum_steps (f : Fin 15 → ℕ) : (upTo15.map f).sum = ∑ e, f e := (Fin.sum_univ_def f).symm

theorem far_injective : Function.Injective far := by decide

/-- What device `d` owes the barrier of device `c`: one for every step at which it is `c`'s turn. -/
theorem owed_bar (d c : Dev nD) : O₀ d (barCell c) () = ∑ e, if c = add d (far e) then 1 else 0 := by
  unfold O₀ oweB oweX
  rw [dues_apply, dues_apply, sum_steps, sum_steps]
  have h1 (e : Fin 15) : (tallyAt (recvCell (peer d e) (far e)) () Nx : CellTallies nD τ sig Unit) (barCell c) () = 0 :=
    (tally_cell c (peer d e) none (some (1, far e)) Nx).trans (if_neg fun h => by cases h.2)
  have h2 (e : Fin 15) : (tallyAt (barCell (peer d e)) () 1 : CellTallies nD τ sig Unit) (barCell c) () = if c = add d (far e) then 1 else 0 :=
    (tally_cell c (peer d e) none none 1).trans (by rw [peer_eq]; exact if_congr (and_iff_left rfl) rfl rfl)
  simp only [h1, h2, Finset.sum_const_zero]
  exact Nat.zero_add _

/-- What it owes the landing of step `e` there: that block's bytes, if the block is its own. -/
theorem owed_recv (d c : Dev nD) (e : Fin 15) : O₀ d (recvCell c (far e)) () = if c = add d (far e) then Nx else 0 := by
  unfold O₀ oweB oweX
  rw [dues_apply, dues_apply, sum_steps, sum_steps]
  have h1 (e' : Fin 15) : (tallyAt (recvCell (peer d e') (far e')) () Nx : CellTallies nD τ sig Unit) (recvCell c (far e)) ()
      = if e' = e then (if c = add d (far e) then Nx else 0) else 0 := by
    refine (tally_cell c (peer d e') (some (1, far e)) (some (1, far e')) Nx).trans ?_
    rw [peer_eq]
    by_cases h : e' = e
    · subst h; rw [if_pos rfl]; exact if_congr (and_iff_left rfl) rfl rfl
    · rw [if_neg h, if_neg fun h' => h (far_injective (Prod.mk.inj (Option.some.inj h'.2)).2).symm]
  have h2 (e' : Fin 15) : (tallyAt (barCell (peer d e')) () 1 : CellTallies nD τ sig Unit) (recvCell c (far e)) () = 0 :=
    (tally_cell c (peer d e') (some (1, far e)) none 1).trans (if_neg fun h => by cases h.2)
  simp only [h1, h2, Finset.sum_const_zero, Finset.sum_ite_eq', Finset.mem_univ, if_true]
  exact (Nat.add_zero _).trans (Nat.zero_add _)

/-- Over all the devices, exactly one pays at each step. -/
theorem one_pays (c : Dev nD) (t : Fin 16) (n : ℕ) : (∑ d : Dev nD, if c = add d t then n else 0) = n := by
  have h (d : Dev nD) : (if c = add d t then n else 0) = if d = sub c t then n else 0 :=
    if_congr ⟨fun h => by rw [h, sub_add], fun h => by rw [h, add_sub]⟩ rfl rfl
  simp only [h, Finset.sum_ite_eq', Finset.mem_univ, if_true]

theorem launch_bar (c : Dev nD) :
    tallyOn (barCell c) (launchCredit (Pipeline.owing O₀) 0 (barCell c)) = (tallyAt (barCell c) () 15 : CellTallies nD τ sig Unit) := by
  unfold tallyAt; refine congrArg _ (Finsupp.ext fun u => ?_); cases u
  rw [Pipeline.launchCredit_owing, Finsupp.single_eq_same, Finset.sum_congr rfl fun d _ => owed_bar d c, Finset.sum_comm,
    Finset.sum_congr rfl fun e _ => one_pays c (far e) 1]
  rfl

theorem launch_recv (c : Dev nD) (e : Fin 15) :
    tallyOn (recvCell c (far e)) (launchCredit (Pipeline.owing O₀) 0 (recvCell c (far e)))
      = (tallyAt (recvCell c (far e)) () Nx : CellTallies nD τ sig Unit) := by
  unfold tallyAt; refine congrArg _ (Finsupp.ext fun u => ?_); cases u
  rw [Pipeline.launchCredit_owing, Finsupp.single_eq_same, Finset.sum_congr rfl fun d _ => owed_recv d c e, one_pays]

theorem creds (c : Dev nD) : (Pipeline.launchCred O₀ c : sProp 𝕄) ⊢ credits c := by
  unfold Pipeline.launchCred
  refine BIBase.Entails.trans (bigSep_subset (Finset.subset_univ (Finset.univ.map ⟨csem, csem_injective⟩))) ?_
  rw [bigSep_map, keys_split, upTo16_split, upTo16_split fun t => _]
  unfold credits
  rw [← launch_bar c, show (fun e : Fin 15 => (cred (tallyAt (recvCell c (far e)) () Nx) : sProp 𝕄))
    = fun e => cred (tallyOn (recvCell c (far e)) (launchCredit (Pipeline.owing O₀) 0 (recvCell c (far e))))
    from funext fun e => by rw [launch_recv]]
  iintro ⟨Hb, -, ⟨-, Hr⟩, -⟩
  isplitl [Hb]; · iexact Hb
  iexact Hr

/-! ## The side conditions -/

theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ ∃ K, ghost m K c)
      ⊢ |={Set.univ}=> iprop(start m c ∗ emp) := by
  rw [Pipeline.unscopedRestP_none, unscopedRest0_eq]
  unfold start
  iintro ⟨Hw, HL, Hcr, -, HG⟩
  ihave Hc := (creds (F := F) c) $$ Hcr
  imodintro
  isplitl
  · isplitl [HG]; · iexact HG
    isplitl [Hc]; · iexact Hc
    isplitl [HL]; · iexact HL
    unfold wPts wIn; iexact Hw
  iempintro

theorem phi0_intro (c : Dev nD) :
    iprop(start m c ∗ Pipeline.prefHeld Pipeline.Prefetch.none c (fun _ => fullShare.right) (fun k => k.elim0) ∗ Pipeline.scopedRest cfg0.spec c)
      ⊢ (dats m 0 c).Φ 0 := by
  rw [show (dats m 0 c).Φ 0 = Φ₀ m c from rfl, scopedRest0_eq]
  unfold Φ₀ x16Pts xrPts wbPts accPts
  iintro ⟨Hs, -, Hr⟩
  isplitl [Hs]; · iexact Hs
  iexact Hr

/-- What is kept after the run: the barrier's counter, and the weights. -/
def kept (c : Dev nD) : sProp 𝕄 := iprop(unscopedSems0 c ∗ wPts c Finset.univ (wIn m c))

theorem phi1_exit (c : Dev nD) :
    (dats m 0 c).Φ (Fin.last cfg0.N) ⊢ iprop(kept m c ∗ Pipeline.ownSems0 osem c ∗ Pipeline.scopedRest cfg0.spec c) := by
  rw [show (dats m 0 c).Φ (Fin.last cfg0.N) = Φ₁ m c from rfl, scopedRest0_eq]
  unfold Φ₁ kept x16Pts xrPts wbPts accPts
  rw [sems_eq]
  iintro ⟨Hw, ⟨H0, H1, H2, H3⟩, Hb, Ho⟩
  isplitl [Hb Hw]
  · isplitl [Hb] <;> iassumption
  isplitl [Ho]; · iexact Ho
  isplitl [H0]; · iexists _; iexact H0
  isplitl [H1]; · iexists _; iexact H1
  isplitl [H2]; · iexists _; iexact H2
  iexists _; iexact H3

theorem stage_low (w : Fin cfg0.W) (s : Fin ((cfg0.win w).nbuf)) (c : Dev nD) : lv ((c : Thread nD τ), .dma ((cfg0.win w).sem s)) () = 0 := by
  have h : ∀ k : Key, csem k ≠ .dma ((cfg0.win w).sem s) := by
    revert w s; decide +kernel
  unfold lv
  rw [show keyOf (.dma ((cfg0.win w).sem s)) = none from dif_neg fun ⟨k, hk⟩ => h k hk]

theorem waits (c : Dev nD) : (levAts L lv : sProp 𝕄) ⊢ Pipeline.cellsWaits cfgs (dats m) () 0 c :=
  Pipeline.cellsWaits_intro cfgs (dats m) () 0 c fun w s t => by
    rcases t with ⟨_ | _, ht⟩
    · exact mayWait_low c _ (stage_low w s c)
    · show _ ⊢ MayWait _ _ _ 0
      rw [MayWait_zero]; iintro -; iempintro

/-! ## The run -/

theorem blk_x (f : Vec F S4096x256 .f32) : (win0_0.blk (0 : Fin 1)).view.read (Elt F) f = f :=
  funext fun x => congrArg f (funext fun a => Fin.ext (win0_0.rect_emb_val_of_index_zero (0 : Fin 1) a rfl x))
theorem blk_o (f : Vec F S256x2048 .f32) : (win0_1.blk (0 : Fin 1)).view.read (Elt F) f = f :=
  funext fun x => congrArg f (funext fun a => Fin.ext (win0_1.rect_emb_val_of_index_zero (0 : Fin 1) a rfl x))

theorem final_x (c : Dev nD) : (dats m 0 c).arrAt (0 : Fin 2) cfg0.N = m ((c : Thread nD τ).loc main_arg0) :=
  (dats (F := F) m 0 c).arrAt_in (0 : Fin 2) rfl _

theorem final_o (c : Dev nD) : (dats m 0 c).arrAt (1 : Fin 2) cfg0.N = outF m c := by
  refine (blk_o _).symm.trans ?_
  rw [show cfg0.N = ((0 : Fin 1) : Fin cfg0.N).val + 1 from rfl, (dats m 0 c).arrAt_succ (1 : Fin 2) (0 : Fin 1)]
  rw [show (cfg0.win (1 : Fin 2)).flush (0 : Fin 1) = true from by decide, if_pos rfl]
  exact View.read_write_univ _ _

/-- What every run ends with. -/
def Post (r : PUnit × MemSt nD τ sig (Elt F)) : Prop :=
  (∀ c : Dev nD, r.2.mem ((c : Thread nD τ).loc main_arg0) = m ((c : Thread nD τ).loc main_arg0)
    ∧ r.2.mem ((c : Thread nD τ).loc main_arg1) = m ((c : Thread nD τ).loc main_arg1)
    ∧ r.2.mem ((c : Thread nD τ).loc main_v1) = outF m c) ∧ r.2.sem = fun _ => 0

/-- Every run of the sixteen devices ends, with the inputs unchanged, the result computed and all counters at zero. -/
theorem run_main : θ_run defs (onTc (τ := τ) (main (F := F))) ⟨m, fun _ => 0, ρ⟩ (Post m) :=
  Pipeline.θ_run_region_owing_glob_pf (fun p => (cfgs p).toPCfg) (fun p => (cfgs p).toPCfg_adm) (dats m) () cellOf_inj (0 : Fin 1)
    winFacts0.to₀ ownSemFacts (Pipeline.PreFacts.none _) EP defs₀ 𝒱₀ m ρ main
    (hmain := fun _ => rfl)
    (hbody := body_obligation m) (hne := fun w => by fin_cases w <;> exact Nat.succ_pos _) (harr := arr_whole0) (hstage := stage_whole0)
    (hshare := fun c w => by unfold Dat.share; split <;> rfl)
    (hdistinct := winFacts0.arr_inj)
    (O₀ := O₀) (howed₀ := fun _ => rfl) (howedN := fun _ => rfl)
    (L := L) (lv := lv) (hL := L_of_ne) (hwaits := waits m)
    (G := G m) (G' := fun c => iprop(∃ K, ghost m K c)) (u₀ := u₀)
    (hu₀ := by
      unfold u₀
      iintro Hu
      ihave H := (ownU_pair _ _) $$ Hu
      icases H with ⟨HP, HX⟩
      imod (fund_all m) $$ HX with HG
      imodintro
      isplitl [HP] <;> iassumption)
    (hglob := glob m)
    (hA := fun _ _ => rfl) (hpf := fun _ k => k.elim0)
    (X := start m) (Y := kept m) (Z := fun _ => iprop(emp))
    (hX := start_intro m ρ) (hin := phi0_intro m) (hout := phi1_exit m)
    (QY := fun c s => (∀ sm : SemLoc sig, sm.isScoped .tc = false → s.sem ((c.tc : Thread nD τ), sm) = 0)
      ∧ s.mem ((c : Thread nD τ).loc main_arg1) = m ((c : Thread nD τ).loc main_arg1))
    (hY := fun c s' => by
      unfold kept wPts wIn
      iintro ⟨⟨Hu, Hw⟩, -, HSI⟩
      ihave %hw := (SI_pointsTo_agree (st := s')) $$ [HSI Hw]
      · isplitl [HSI] <;> iassumption
      ihave H := (Pipeline.unscopedSems0_read (X := unscopedSems0 c) (c := c) fupd_intro s') $$ [Hu HSI]
      · isplitl [Hu] <;> iassumption
      imod H with ⟨%hs, HSI⟩
      imodintro
      isplitr [HSI]
      · ipureintro; exact ⟨hs, funext fun i => hw i (Finset.mem_univ i)⟩
      iexact HSI)
    (hQ := fun _ h hs => ⟨fun c => ⟨((h c).1 0).trans (final_x m c), (h c).2.2.2, ((h c).1 1).trans (final_o m c)⟩,
      sem_eq_zero hs fun c => (h c).2.2.1⟩)

/-- Of that, what does not speak of the result. -/
theorem run_frame : θ_run defs (onTc (τ := τ) (main (F := F))) ⟨m, fun _ => 0, ρ⟩ fun r =>
    (∀ c : Dev nD, r.2.mem ((c : Thread nD τ).loc main_arg0) = m ((c : Thread nD τ).loc main_arg0)
      ∧ r.2.mem ((c : Thread nD τ).loc main_arg1) = m ((c : Thread nD τ).loc main_arg1)) ∧ r.2.sem = fun _ => 0 :=
  (θ_run defs _ _).mono (fun _ h => ⟨fun c => ⟨(h.1 c).1, (h.1 c).2.1⟩, h.2⟩) (run_main m ρ)

end Cert.A2A

end
-- ==== Proof.Value.lean ====
/-
The value at the ideal floats: the accumulated block products of a device are the full sums over the 4096 columns, so
what it ends with is its block of rows of the reference's result.
-/
module

public import proofs.«01_k».proof.Defs
public import proofs.«01_k».proof.Proof.Launch
public import proofs.«01_k».proof.Proof.Gen.ReferenceIdeal.Run
public import Idealize.ShloMosaic.Lib.MatmulPlain
public import Idealize.ShloMosaic.Lib.StackMember
public import Idealize.ShloMosaic.Lib.Pointwise.Sums
public import Idealize.ShloMosaic.Lib.Layout

@[expose] public section

set_option maxRecDepth 65536

noncomputable section

namespace Cert.A2A

open Cert.KernelIdeal Cert.KernelIdeal.Gen
open Idealize.ShloMosaic Idealize.ShloMosaic.TcCoe Idealize.SL.Sem

variable (m : (ℓ : Loc nD τ sig) → Buf (Elt Ideal) ℓ)

/-- Position `k` of block `p` among the 4096. -/
def inBlk (p : Dev nD) (k : Fin 256) : Fin 4096 := ⟨p.val * 256 + k.val, by have := p.isLt; simp only [nD] at *; omega⟩

/-- A row of device `p`'s weight block, in the whole array. -/
theorem emb_wRows (p : Dev nD) {off : Fin 2 → Nat} {inb} (h : off = ![256 * p.val, 0]) (k : Fin 256) (j : Fin 2048) :
    (Rect.unit (s := S4096x2048) off S256x2048.size inb).emb (ix2 k j) = ix2 (inBlk p k) j := by
  subst h
  funext a
  refine Fin.ext ?_
  match a with
  | ⟨0, _⟩ => show 256 * p.val + 1 * k.val = p.val * 256 + k.val; omega
  | ⟨1, _⟩ => show 0 + 1 * j.val = j.val; omega

theorem wPart_apply (c : Dev nD) (t : Fin 16) (k : Fin 256) (j : Fin 2048) :
    wPart m c t (ix2 k j) = wIn m c (ix2 (inBlk (sub c t) k) j) :=
  congrArg (wIn m c) (emb_wRows (sub c t) (off1_eq c t) k j)

theorem wBlk_cast (c : Dev nD) (t : Fin 16) {h} : shapeCast S256x2048 (wBlk m c t) h = wPart m c t :=
  read_wSlot m c t

/-- Row `r`, column `j` of the product of device `p`'s columns of the input with the weights' rows of the same block. -/
def term (c p : Dev nD) (r : Fin 256) (j : Fin 2048) : EReal :=
  ∑ k : Fin 256, xPart m p c (ix2 r k) * wIn m c (ix2 (inBlk p k) j)

theorem product (c : Dev nD) (t : Fin 16) (r : Fin 256) (j : Fin 2048) {h} :
    matmul dot_S256x256_S256x2048_S256x2048_1_0_0_1_n_n none (xPart m (sub c t) c)
      (truncf (F := Ideal) .bf16 (shapeCast S256x2048 (wBlk m c t) h) bitsLt_bf16_f32) (constant S256x2048 .f32 0x00000000#32) (ix2 r j)
      = term m c (sub c t) r j := by
  rw [wBlk_cast]
  refine (Ideal.matmul_plain_apply none _ _ _ r j).trans ?_
  refine (congrArg (· + _) Ideal.ofBits_zero_f32).trans ((zero_add _).trans ?_)
  exact Finset.sum_congr rfl fun k _ => congrArg (xPart m (sub c t) c (ix2 r k) * ·) (wPart_apply m c t k j)

theorem accFirst_apply (c : Dev nD) (r : Fin 256) (j : Fin 2048) : accFirst m c (ix2 r j) = term m c (sub c 0) r j := by
  unfold accFirst k0_pay3
  rw [shapeCast_self]
  exact product m c 0 r j

theorem accNext_apply (c : Dev nD) (A : Vec Ideal S256x2048 .f32) (e : Fin 15) (r : Fin 256) (j : Fin 2048) :
    accNext m c A e (ix2 r j) = A (ix2 r j) + term m c (sub c (far e)) r j := by
  unfold accNext k0_pay4
  rw [shapeCast_self]
  exact congrArg (A (ix2 r j) + ·) (product m c (far e) r j)

theorem fold_apply (c : Dev nD) (r : Fin 256) (j : Fin 2048) : ∀ (l : List (Fin 15)) (A : Vec Ideal S256x2048 .f32),
    l.foldl (accNext m c) A (ix2 r j) = A (ix2 r j) + (l.map fun e => term m c (sub c (far e)) r j).sum
  | [], A => (add_zero _).symm
  | e :: l, A => by
    rw [List.foldl_cons, fold_apply c r j l, accNext_apply, List.map_cons, List.sum_cons, add_assoc]

/-- The accumulator after the last step: the sum of the sixteen products, in whichever order the blocks came. -/
theorem accAll_apply (c : Dev nD) (r : Fin 256) (j : Fin 2048) : accAll m c (ix2 r j) = ∑ p : Dev nD, term m c p r j := by
  unfold accAll
  rw [fold_apply, accFirst_apply, ← Equiv.sum_comp (subEquiv c), Fin.sum_univ_succ]
  refine congrArg (term m c (sub c 0) r j + ·) ((Fin.sum_univ_def _).symm.trans (Finset.sum_congr rfl fun e _ => ?_))
  exact congrArg (fun t => term m c (sub c t) r j) (Fin.ext (Nat.add_comm 1 e.val))

variable (X : FVec Ideal Cert.ReferenceIdeal.S4096x4096 .f32) (W : FVec Ideal Cert.ReferenceIdeal.S4096x2048 .f32)

/-- The reference's result. -/
abbrev refOut : FVec Ideal Cert.ReferenceIdeal.S4096x2048 .f32 :=
  maximumf (F := Ideal) (Host.dotGeneral Cert.ReferenceIdeal.dot_S4096x4096_S4096x2048_S4096x2048_1_0_0_1_n_n none X W)
    (broadcastInDim Cert.ReferenceIdeal.S4096x2048 ![] Cert.ReferenceIdeal.Gen.facts.bcast_S_S4096x2048
      (constant Cert.ReferenceIdeal.S_ .f32 0x00000000#32))

/-- Each device holds its columns of the input and the whole weights. -/
def Given0 : Prop := ∀ c : Dev nD,
  m ((c : Thread nD τ).loc main_arg0) = Layout.block ⟨2, ![4096, 256]⟩ ⟨2, ![4096, 4096]⟩ 1 16 c X
    ∧ m ((c : Thread nD τ).loc main_arg1) = W

theorem xPart_apply (hm : Given0 m X W) (p c : Dev nD) (r k : Fin 256) :
    xPart m p c (ix2 r k) = X (ix2 (inBlk c r) (inBlk p k)) := by
  have h1 : xPart m p c (ix2 r k) = xstg m p (ix2 (inBlk c r) k) := by
    unfold xPart x16F k0_pay1
    rw [shapeCast_self, shapeCast_self]
    refine congrArg (xstg m p) ?_
    refine congrArg (fun i => ix2 i k) (Fin.ext ?_)
    exact congrArg (· + r.val) (Nat.mul_comm 256 c.val)
  rw [h1]
  unfold xstg
  rw [blk_x, (hm p).1, Layout.block_apply]
  refine congrArg X (funext fun a => Fin.ext ?_)
  match a with
  | ⟨0, _⟩ => rfl
  | ⟨1, _⟩ => rfl

/-- What device `c` ends with is its block of rows of the reference's result. -/
theorem out_eq (hm : Given0 m X W) (c : Dev nD) :
    outF m c = Layout.block ⟨2, ![256, 2048]⟩ ⟨2, ![4096, 2048]⟩ 0 16 c (refOut X W) := by
  funext i
  obtain ⟨r, j, rfl⟩ : ∃ (r : Fin 256) (j : Fin 2048), i = ix2 r j := ⟨i 0, i 1, (ix2_eta i).symm⟩
  rw [Layout.block_apply]
  have hi : (Layout.Tiles.idx (a := 0) (by decide) c (ix2 r j) : (⟨2, ![4096, 2048]⟩ : Shape).Idx) = ix2 (inBlk c r) j := by
    refine funext fun a => Fin.ext ?_
    match a with
    | ⟨0, _⟩ => rfl
    | ⟨1, _⟩ => rfl
  refine Eq.trans ?_ (congrArg (refOut X W) hi.symm)
  have hs : accAll m c (ix2 r j)
      = Host.dotGeneral Cert.ReferenceIdeal.dot_S4096x4096_S4096x2048_S4096x2048_1_0_0_1_n_n none X W (ix2 (inBlk c r) j) := by
    rw [accAll_apply]
    refine Eq.trans ?_ (StackMember.dotGeneral_plain_apply none X W (inBlk c r) j).symm
    rw [Fin.sum_univ_tiles 16 256 rfl]
    refine Finset.sum_congr rfl fun p _ => Finset.sum_congr rfl fun k _ => ?_
    rw [xPart_apply m X W hm]
    exact congrArg (X (ix2 (inBlk c r) (inBlk p k)) * ·) (congrFun (hm c).2 _)
  exact congrArg (fun a : EReal => max a (Ideal.ofBits .f32 0x00000000#32)) hs

/-- The claim of equal values at the ideal floats. -/
theorem algebraic : Cert.algebraic_KernelIdeal_ReferenceIdeal (hReferenceIdeal := Cert.ReferenceIdeal.Gen.facts) := by
  intro m g m' g' _ hm
  have hr := Cert.ReferenceIdeal.Value.run (F := Ideal) m' g'
  exact ⟨_, (θ_run _ _ _).mono
      (fun _ h c => ⟨(h.1 c).2.2.trans (out_eq m _ _ hm c), (h.1 c).1, (h.1 c).2.1⟩) (run_main (F := Ideal) m g),
    (θ_run _ _ _).mono (fun _ h => h 0) hr⟩

end Cert.A2A

end
-- ==== Proof.lean ====
/-
The proof of the certificate's claim: all sixteen devices of the kernel run to their end, on bits and at the ideal
floats, with the inputs unchanged and every semaphore counter back at zero; and at the ideal floats each device ends
with its block of rows of the reference's result.
-/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Value
public import Idealize.ShloMosaic.Adequacy
public import Idealize.ShloMosaic.Init

@[expose] public section

set_option maxRecDepth 65536

noncomputable section

namespace Cert.Proof

open Idealize.ShloMosaic Idealize.SL.Sem

/-- The kernel and its reading at the ideal floats have the same body table, entry by entry. -/
theorem defs₀_eq {F : FTy → Type} [FloatOps F] : Cert.Kernel.defs₀ (F := F) = Cert.KernelIdeal.defs₀ (F := F) :=
  congrArg Defs.onTc (funext fun
    | 0 => rfl
    | ⟨_ + 1, h⟩ => absurd h (Nat.not_lt.2 (Nat.le_add_left _ _)))

theorem defs_eq {F : FTy → Type} [FloatOps F] : Cert.Kernel.defs (F := F) = Cert.KernelIdeal.defs (F := F) :=
  congrArg (Pipeline.defs (Cert.KernelIdeal.pcfgs (F := F))) defs₀_eq

/-- The kernel on bits: the run at the ideal program's text, which is the kernel's own. -/
theorem frame_kernel : Cert.quiescent_Kernel (hKernel := Cert.Kernel.Gen.facts) := fun m ρ _ =>
  by rw [defs_eq]; exact Cert.A2A.run_frame (F := Bits) m ρ

/-- The same run at the ideal floats. -/
theorem frame_kernelIdeal : Cert.quiescent_KernelIdeal (hKernelIdeal := Cert.KernelIdeal.Gen.facts) := fun m ρ _ =>
  Cert.A2A.run_frame (F := Ideal) m ρ

/-- The reference is a host program with no semaphore. -/
theorem frame_reference : Cert.quiescent_ReferenceIdeal (hReferenceIdeal := Cert.ReferenceIdeal.Gen.facts) := fun m ρ _ =>
  (θ_run Cert.ReferenceIdeal.defs _ _).mono (fun r h => ⟨fun c => (h c).2, sem_eq_zero_of_no_sems (by decide) r.2⟩)
    (Cert.ReferenceIdeal.Value.run (F := Ideal) m ρ)

theorem claim : Cert.Claim := ⟨Cert.Kernel.Gen.facts, Cert.KernelIdeal.Gen.facts, Cert.ReferenceIdeal.Gen.facts,
  frame_kernel, frame_kernelIdeal, frame_reference, trivial, Cert.A2A.algebraic⟩

end Cert.Proof

end
